-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x9216 : Shape := ⟨3, ![16, 1024, 9216]⟩
abbrev S16x512 : Shape := ⟨2, ![16, 512]⟩
abbrev S1x1024x512 : Shape := ⟨3, ![1, 1024, 512]⟩
abbrev S1024x512 : Shape := ⟨2, ![1024, 512]⟩
abbrev S64x16x512 : Shape := ⟨3, ![64, 16, 512]⟩
abbrev S_ : Shape := ⟨0, ![]⟩
abbrev S1 : Shape := ⟨1, ![1]⟩
abbrev S16x9216x512 : Shape := ⟨3, ![16, 9216, 512]⟩
abbrev S16x64x9216 : Shape := ⟨3, ![16, 64, 9216]⟩
abbrev S1x512x512 : Shape := ⟨3, ![1, 512, 512]⟩
abbrev S1x64x512 : Shape := ⟨3, ![1, 64, 512]⟩
abbrev S1x256x128 : Shape := ⟨3, ![1, 256, 128]⟩
abbrev S256x128 : Shape := ⟨2, ![256, 128]⟩
abbrev S16x16x128 : Shape := ⟨3, ![16, 16, 128]⟩
abbrev S16x128 : Shape := ⟨2, ![16, 128]⟩
abbrev S1x16x128 : Shape := ⟨3, ![1, 16, 128]⟩
abbrev S16x1x128 : Shape := ⟨3, ![16, 1, 128]⟩
abbrev S32x8x128 : Shape := ⟨3, ![32, 8, 128]⟩
abbrev S32x1x128 : Shape := ⟨3, ![32, 1, 128]⟩
abbrev S32x128 : Shape := ⟨2, ![32, 128]⟩
abbrev S128x128 : Shape := ⟨2, ![128, 128]⟩
abbrev S1x128x128 : Shape := ⟨3, ![1, 128, 128]⟩
abbrev S16x9216x64 : Shape := ⟨3, ![16, 9216, 64]⟩

abbrev nBuf : Space → Nat
  | .hbm => 15
  | .vmem => 9
  | .smem => 1
  | _ => 0

abbrev bufTy : (tb : Table) → Fin (tcTables nBuf tb) → BufTy
  | .hbm, ⟨0, _⟩ => ⟨S16x1024x9216, .bf16⟩
  | .hbm, ⟨1, _⟩ => ⟨S16x512, .bf16⟩
  | .hbm, ⟨2, _⟩ => ⟨S_, .bf16⟩
  | .hbm, ⟨3, _⟩ => ⟨S_, .bf16⟩
  | .hbm, ⟨4, _⟩ => ⟨S_, .f32⟩
  | .hbm, ⟨5, _⟩ => ⟨S_, .f32⟩
  | .hbm, ⟨6, _⟩ => ⟨S_, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S16x9216x512, .i8⟩
  | .hbm, ⟨13, _⟩ => ⟨S16x64x9216, .fp8e4m3⟩
  | .hbm, ⟨14, _⟩ => ⟨S16x9216x64, .fp8e4m3⟩
  | .local _ .vmem, ⟨0, _⟩ => ⟨S1x1024x512, .bf16⟩
  | .local _ .vmem, ⟨1, _⟩ => ⟨S1x1024x512, .bf16⟩
  | .local _ .vmem, ⟨2, _⟩ => ⟨S16x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x512x512, .i8⟩
  | .local _ .vmem, ⟨6, _⟩ => ⟨S1x512x512, .i8⟩
  | .local _ .vmem, ⟨7, _⟩ => ⟨S1x64x512, .fp8e4m3⟩
  | .local _ .vmem, ⟨8, _⟩ => ⟨S1x64x512, .fp8e4m3⟩
  | .local _ .smem, ⟨0, _⟩ => ⟨S1, .f32⟩
  | _, _ => ⟨S16x1024x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨2, ![16, 18], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev grid1 : Pipeline.Grid := ⟨2, ![16, 18], ![false, false]⟩

@[reducible] def k1_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k1_mult1 (k1_t1 : Fin k1_t1_loop.trips) : BitVec 32 :=
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  v4
def k1_off1 (k1_t1 : Fin k1_t1_loop.trips) : Fin 3 → Nat :=
  let c0_3 : Index := 0#32
  let c0_4 : Index := 0#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v6 : Index := Scalar.indexCast v5
  ![0, 0, v6.toNat]
def k1_off2 (k1_t1 : Fin k1_t1_loop.trips) : Fin 3 → Nat :=
  let c0_7 : Index := 0#32
  let c0_8 : Index := 0#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v19 : Index := Scalar.indexCast v5
  ![0, 0, v19.toNat]
def k1_off3 (k1_t1 : Fin k1_t1_loop.trips) : Fin 3 → Nat :=
  let c0_27 : Index := 0#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v121 : Index := Scalar.indexCast v5
  let c0_28 : Index := 0#32
  ![0, v121.toNat, 0]
def k1_off4 (k1_t1 : Fin k1_t1_loop.trips) : Fin 3 → Nat :=
  let c0_29 : Index := 0#32
  let c256 : Index := 256#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v125 : Index := Scalar.indexCast v5
  ![0, 256, v125.toNat]
def k1_off5 (k1_t1 : Fin k1_t1_loop.trips) : Fin 3 → Nat :=
  let c0_33 : Index := 0#32
  let c16 : Index := 16#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v138 : Index := Scalar.indexCast v5
  ![0, 16, v138.toNat]
def k1_off6 (k1_t1 : Fin k1_t1_loop.trips) : Fin 3 → Nat :=
  let c0_59 : Index := 0#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v240 : Index := Scalar.indexCast v5
  let c128 : Index := 128#32
  ![0, v240.toNat, 128]
def k1_off7 (k1_t1 : Fin k1_t1_loop.trips) : Fin 3 → Nat :=
  let c0_60 : Index := 0#32
  let c512 : Index := 512#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v244 : Index := Scalar.indexCast v5
  ![0, 512, v244.toNat]
def k1_off8 (k1_t1 : Fin k1_t1_loop.trips) : Fin 3 → Nat :=
  let c0_64 : Index := 0#32
  let c32 : Index := 32#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v257 : Index := Scalar.indexCast v5
  ![0, 32, v257.toNat]
def k1_off9 (k1_t1 : Fin k1_t1_loop.trips) : Fin 3 → Nat :=
  let c0_90 : Index := 0#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v359 : Index := Scalar.indexCast v5
  let c256_91 : Index := 256#32
  ![0, v359.toNat, 256]
def k1_off10 (k1_t1 : Fin k1_t1_loop.trips) : Fin 3 → Nat :=
  let c0_92 : Index := 0#32
  let c768 : Index := 768#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v363 : Index := Scalar.indexCast v5
  ![0, 768, v363.toNat]
def k1_off11 (k1_t1 : Fin k1_t1_loop.trips) : Fin 3 → Nat :=
  let c0_96 : Index := 0#32
  let c48 : Index := 48#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v376 : Index := Scalar.indexCast v5
  ![0, 48, v376.toNat]
def k1_off12 (k1_t1 : Fin k1_t1_loop.trips) : Fin 3 → Nat :=
  let c0_122 : Index := 0#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v2 : BitVec 32 := Scalar.muli arg6 c1_i32_1
  let v3 : BitVec 32 := Scalar.addi c0_i32_2 v2
  let c128_i32 : BitVec 32 := 128#32
  let v4 : BitVec 32 := Scalar.muli v3 c128_i32
  let v5 : BitVec 32 := v4
  let v478 : Index := Scalar.indexCast v5
  let c384 : Index := 384#32
  ![0, v478.toNat, 384]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x64x512 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S16x1024x9216 : Shape := ⟨3, ![16, 1024, 9216]⟩
abbrev S16x64x16x9216 : Shape := ⟨4, ![16, 64, 16, 9216]⟩
abbrev S_ : Shape := ⟨0, ![]⟩
abbrev S16x64x9216 : Shape := ⟨3, ![16, 64, 9216]⟩
abbrev S16x64x1x9216 : Shape := ⟨4, ![16, 64, 1, 9216]⟩
abbrev S16x512x2x9216 : Shape := ⟨4, ![16, 512, 2, 9216]⟩
abbrev S16x512x1x9216 : Shape := ⟨4, ![16, 512, 1, 9216]⟩
abbrev S16x512x9216 : Shape := ⟨3, ![16, 512, 9216]⟩
abbrev S16x9216x512 : Shape := ⟨3, ![16, 9216, 512]⟩
abbrev S16x9216x64 : Shape := ⟨3, ![16, 9216, 64]⟩

abbrev nBuf : Space → Nat
  | .hbm => 123
  | .vmem => 3
  | .smem => 0
  | _ => 0

abbrev bufTy : (tb : Table) → Fin (tcTables nBuf tb) → BufTy
  | .hbm, ⟨0, _⟩ => ⟨S16x1024x9216, .bf16⟩
  | .hbm, ⟨1, _⟩ => ⟨S16x64x16x9216, .bf16⟩
  | .hbm, ⟨2, _⟩ => ⟨S16x1024x9216, .bf16⟩
  | .hbm, ⟨3, _⟩ => ⟨S_, .bf16⟩
  | .hbm, ⟨4, _⟩ => ⟨S_, .bf16⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x64x16x9216, .bf16⟩
  | .hbm, ⟨13, _⟩ => ⟨S_, .bf16⟩
  | .hbm, ⟨14, _⟩ => ⟨S16x64x9216, .bf16⟩
  | .hbm, ⟨15, _⟩ => ⟨S16x64x9216, .f32⟩
  | .hbm, ⟨16, _⟩ => ⟨S_, .f32⟩
  | .hbm, ⟨17, _⟩ => ⟨S_, .f32⟩
  | .hbm, ⟨18, _⟩ => ⟨S16x64x9216, .f32⟩
  | .hbm, ⟨19, _⟩ => ⟨S16x64x9216, .f32⟩
  | .hbm, ⟨20, _⟩ => ⟨S_, .f32⟩
  | .hbm, ⟨21, _⟩ => ⟨S16x64x9216, .f32⟩
  | .hbm, ⟨22, _⟩ => ⟨S16x64x9216, .f32⟩
  | .hbm, ⟨23, _⟩ => ⟨S16x64x9216, .fp8e4m3⟩
  | .hbm, ⟨24, _⟩ => ⟨S16x64x9216, .f32⟩
  | .hbm, ⟨25, _⟩ => ⟨S16x64x9216, .f32⟩
  | .hbm, ⟨26, _⟩ => ⟨S16x64x9216, .f32⟩
  | .hbm, ⟨27, _⟩ => ⟨S_, .f32⟩
  | .hbm, ⟨28, _⟩ => ⟨S16x64x9216, .f32⟩
  | .hbm, ⟨29, _⟩ => ⟨S16x64x9216, .i1⟩
  | .hbm, ⟨30, _⟩ => ⟨S_, .f32⟩
  | .hbm, ⟨31, _⟩ => ⟨S16x64x9216, .f32⟩
  | .hbm, ⟨32, _⟩ => ⟨S16x64x9216, .f32⟩
  | .hbm, ⟨33, _⟩ => ⟨S16x64x16x9216, .f32⟩
  | .hbm, ⟨34, _⟩ => ⟨S16x64x1x9216, .f32⟩
  | .hbm, ⟨35, _⟩ => ⟨S16x64x16x9216, .f32⟩
  | .hbm, ⟨36, _⟩ => ⟨S16x64x16x9216, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x64x16x9216, .f32⟩
  | .hbm, ⟨41, _⟩ => ⟨S16x64x16x9216, .f32⟩
  | .hbm, ⟨42, _⟩ => ⟨S_, .f32⟩
  | .hbm, ⟨43, _⟩ => ⟨S16x64x16x9216, .f32⟩
  | .hbm, ⟨44, _⟩ => ⟨S16x64x16x9216, .f32⟩
  | .hbm, ⟨45, _⟩ => ⟨S16x64x16x9216, .f32⟩
  | .hbm, ⟨46, _⟩ => ⟨S_, .f32⟩
  | .hbm, ⟨47, _⟩ => ⟨S16x64x16x9216, .f32⟩
  | .hbm, ⟨48, _⟩ => ⟨S16x64x16x9216, .i1⟩
  | .hbm, ⟨49, _⟩ => ⟨S_, .f32⟩
  | .hbm, ⟨50, _⟩ => ⟨S16x64x16x9216, .f32⟩
  | .hbm, ⟨51, _⟩ => ⟨S16x64x16x9216, .i1⟩
  | .hbm, ⟨52, _⟩ => ⟨S_, .f32⟩
  | .hbm, ⟨53, _⟩ => ⟨S_, .f32⟩
  | .hbm, ⟨54, _⟩ => ⟨S16x64x16x9216, .f32⟩
  | .hbm, ⟨55, _⟩ => ⟨S16x64x16x9216, .f32⟩
  | .hbm, ⟨56, _⟩ => ⟨S16x64x16x9216, .f32⟩
  | .hbm, ⟨57, _⟩ => ⟨S_, .f32⟩
  | .hbm, ⟨58, _⟩ => ⟨S16x64x16x9216, .f32⟩
  | .hbm, ⟨59, _⟩ => ⟨S16x64x16x9216, .f32⟩
  | .hbm, ⟨60, _⟩ => ⟨S16x64x16x9216, .f32⟩
  | .hbm, ⟨61, _⟩ => ⟨S16x64x16x9216, .f32⟩
  | .hbm, ⟨62, _⟩ => ⟨S16x64x16x9216, .f32⟩
  | .hbm, ⟨63, _⟩ => ⟨S16x64x16x9216, .f32⟩
  | .hbm, ⟨64, _⟩ => ⟨S_, .f32⟩
  | .hbm, ⟨65, _⟩ => ⟨S16x64x16x9216, .f32⟩
  | .hbm, ⟨66, _⟩ => ⟨S16x64x16x9216, .i1⟩
  | .hbm, ⟨67, _⟩ => ⟨S16x64x16x9216, .i32⟩
  | .hbm, ⟨68, _⟩ => ⟨S_, .i32⟩
  | .hbm, ⟨69, _⟩ => ⟨S16x64x16x9216, .i32⟩
  | .hbm, ⟨70, _⟩ => ⟨S16x64x16x9216, .i32⟩
  | .hbm, ⟨71, _⟩ => ⟨S_, .f32⟩
  | .hbm, ⟨72, _⟩ => ⟨S16x64x16x9216, .f32⟩
  | .hbm, ⟨73, _⟩ => ⟨S16x64x16x9216, .i1⟩
  | .hbm, ⟨74, _⟩ => ⟨S16x64x16x9216, .i32⟩
  | .hbm, ⟨75, _⟩ => ⟨S16x64x16x9216, .i32⟩
  | .hbm, ⟨76, _⟩ => ⟨S_, .f32⟩
  | .hbm, ⟨77, _⟩ => ⟨S16x64x16x9216, .f32⟩
  | .hbm, ⟨78, _⟩ => ⟨S16x64x16x9216, .i1⟩
  | .hbm, ⟨79, _⟩ => ⟨S16x64x16x9216, .i32⟩
  | .hbm, ⟨80, _⟩ => ⟨S16x64x16x9216, .i32⟩
  | .hbm, ⟨81, _⟩ => ⟨S_, .f32⟩
  | .hbm, ⟨82, _⟩ => ⟨S16x64x16x9216, .f32⟩
  | .hbm, ⟨83, _⟩ => ⟨S16x64x16x9216, .i1⟩
  | .hbm, ⟨84, _⟩ => ⟨S16x64x16x9216, .i32⟩
  | .hbm, ⟨85, _⟩ => ⟨S16x64x16x9216, .i32⟩
  | .hbm, ⟨86, _⟩ => ⟨S_, .f32⟩
  | .hbm, ⟨87, _⟩ => ⟨S16x64x16x9216, .f32⟩
  | .hbm, ⟨88, _⟩ => ⟨S16x64x16x9216, .i1⟩
  | .hbm, ⟨89, _⟩ => ⟨S16x64x16x9216, .i32⟩
  | .hbm, ⟨90, _⟩ => ⟨S16x64x16x9216, .i32⟩
  | .hbm, ⟨91, _⟩ => ⟨S_, .f32⟩
  | .hbm, ⟨92, _⟩ => ⟨S16x64x16x9216, .f32⟩
  | .hbm, ⟨93, _⟩ => ⟨S16x64x16x9216, .i1⟩
  | .hbm, ⟨94, _⟩ => ⟨S16x64x16x9216, .i32⟩
  | .hbm, ⟨95, _⟩ => ⟨S16x64x16x9216, .i32⟩
  | .hbm, ⟨96, _⟩ => ⟨S_, .f32⟩
  | .hbm, ⟨97, _⟩ => ⟨S16x64x16x9216, .f32⟩
  | .hbm, ⟨98, _⟩ => ⟨S16x64x16x9216, .i1⟩
  | .hbm, ⟨99, _⟩ => ⟨S16x64x16x9216, .i32⟩
  | .hbm, ⟨100, _⟩ => ⟨S16x64x16x9216, .i32⟩
  | .hbm, ⟨101, _⟩ => ⟨S_, .f32⟩
  | .hbm, ⟨102, _⟩ => ⟨S16x64x16x9216, .f32⟩
  | .hbm, ⟨103, _⟩ => ⟨S16x64x16x9216, .i1⟩
  | .hbm, ⟨104, _⟩ => ⟨S_, .i32⟩
  | .hbm, ⟨105, _⟩ => ⟨S_, .i32⟩
  | .hbm, ⟨106, _⟩ => ⟨S16x64x16x9216, .i32⟩
  | .hbm, ⟨107, _⟩ => ⟨S16x64x16x9216, .i32⟩
  | .hbm, ⟨108, _⟩ => ⟨S16x64x16x9216, .i32⟩
  | .hbm, ⟨109, _⟩ => ⟨S16x64x16x9216, .i32⟩
  | .hbm, ⟨110, _⟩ => ⟨S16x64x16x9216, .i32⟩
  | .hbm, ⟨111, _⟩ => ⟨S16x512x2x9216, .i32⟩
  | .hbm, ⟨112, _⟩ => ⟨S16x512x1x9216, .i32⟩
  | .hbm, ⟨113, _⟩ => ⟨S16x512x9216, .i32⟩
  | .hbm, ⟨114, _⟩ => ⟨S16x512x1x9216, .i32⟩
  | .hbm, ⟨115, _⟩ => ⟨S16x512x9216, .i32⟩
  | .hbm, ⟨116, _⟩ => ⟨S_, .i32⟩
  | .hbm, ⟨117, _⟩ => ⟨S16x512x9216, .i32⟩
  | .hbm, ⟨118, _⟩ => ⟨S16x512x9216, .i32⟩
  | .hbm, ⟨119, _⟩ => ⟨S16x512x9216, .i32⟩
  | .hbm, ⟨120, _⟩ => ⟨S16x512x9216, .i8⟩
  | .hbm, ⟨121, _⟩ => ⟨S16x9216x512, .i8⟩
  | .hbm, ⟨122, _⟩ => ⟨S16x9216x64, .fp8e4m3⟩
  | .local _ .vmem, ⟨0, _⟩ => ⟨S16x64x9216, .f32⟩
  | .local _ .vmem, ⟨1, _⟩ => ⟨S16x64x9216, .fp8e4m3⟩
  | .local _ .vmem, ⟨2, _⟩ => ⟨S16x64x9216, .f32⟩
  | _, _ => ⟨S16x1024x9216, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_5 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_call1_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_v27 : Ref sig .tc := ⟨.hbm, 47, rfl⟩
abbrev main_v28 : Ref sig .tc := ⟨.hbm, 48, rfl⟩
abbrev main_cst_11 : Ref sig .tc := ⟨.hbm, 49, rfl⟩
abbrev main_v29 : Ref sig .tc := ⟨.hbm, 50, rfl⟩
abbrev main_v30 : Ref sig .tc := ⟨.hbm, 51, rfl⟩
abbrev main_cst_12 : Ref sig .tc := ⟨.hbm, 52, rfl⟩
abbrev main_cst_13 : Ref sig .tc := ⟨.hbm, 53, rfl⟩
abbrev main_call3_v0 : Ref sig .tc := ⟨.hbm, 54, rfl⟩
abbrev main_call3_v1 : Ref sig .tc := ⟨.hbm, 55, rfl⟩
abbrev main_v31 : Ref sig .tc := ⟨.hbm, 56, rfl⟩
abbrev main_cst_14 : Ref sig .tc := ⟨.hbm, 57, rfl⟩
abbrev main_call4_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_15 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c : Ref sig .tc := ⟨.hbm, 68, rfl⟩
abbrev main_v40 : Ref sig .tc := ⟨.hbm, 69, rfl⟩
abbrev main_v41 : Ref sig .tc := ⟨.hbm, 70, rfl⟩
abbrev main_cst_16 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_17 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_19 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_20 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_21 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_22 : Ref sig .tc := ⟨.hbm, 101, rfl⟩
abbrev main_v66 : Ref sig .tc := ⟨.hbm, 102, rfl⟩
abbrev main_v67 : Ref sig .tc := ⟨.hbm, 103, rfl⟩
abbrev main_c_23 : Ref sig .tc := ⟨.hbm, 104, rfl⟩
abbrev main_c_24 : Ref sig .tc := ⟨.hbm, 105, rfl⟩
abbrev main_call6_v0 : Ref sig .tc := ⟨.hbm, 106, rfl⟩
abbrev main_call6_v1 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_25 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x64x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x9216 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Run.lean ====
/-
  The kernel's run, with its three results: what the generated frame proves of the argument, and with it what the three
  result buffers hold when the program ends.
-/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with the three results at what the last segment's contents say, the argument as launched. -/
theorem run : θ_run defs (onTc (τ := τ) (main (F := F))) ⟨m, fun _ => 0, ρ⟩ (fun r => ∀ c : Dev nD,
      r.2.mem ((c.tc : Thread nD τ).loc main_v7_0) = W6 m ρ c (Proc.devRef .tc main_v7_0)
      ∧ r.2.mem ((c.tc : Thread nD τ).loc main_v8) = W6 m ρ c (Proc.devRef .tc main_v8)
      ∧ r.2.mem ((c.tc : Thread nD τ).loc main_v5) = W6 m ρ c (Proc.devRef .tc main_v5)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c => ⟨h c _ (mem_uc main_v7_0 (by decide)), h c _ (mem_uc main_v8 (by decide)), h c _ (mem_uc main_v5 (by decide)),
      (h c _ (mem_uc main_arg0 (by decide))).trans (W6_main_arg0 m ρ c)⟩)

end Cert.KernelIdeal.Value
-- ==== Proof.Codes.lean ====
/-
  The four-bit codes of a scaled element over the extended reals: the kernel's sum of comparisons, the reference's
  rounding to nearest even on the E2M1 grid, and that the second is the first with the code 8 (a negative element
  that rounds to zero) replaced by 0.
-/
module

public import Idealize.ShloMosaic.Init
public import Idealize.ShloMosaic.PureOps.Ideal.Laws
public import Mathlib.Tactic.Linarith
public import Mathlib.Tactic.NormNum

@[expose] public section

set_option maxRecDepth 16384

noncomputable section

namespace Cert.Codes

open Idealize.ShloMosaic

/-! ## The constants of the two programs -/

/-- The float32 constant 448. -/
theorem c_f32_448 : Ideal.ofBits .f32 0x43E00000#32 = ((448 : ℝ) : EReal) := by
  simp [Ideal.ofBits, Ideal.ieee, -EReal.coe_mul]; norm_num
/-- The float32 constant minus infinity. -/
theorem c_f32_neginf : Ideal.ofBits .f32 0xFF800000#32 = (⊥ : EReal) := by
  simp [Ideal.ofBits, Ideal.ieee]
/-- The bfloat16 constant minus infinity. -/
theorem c_bf16_neginf : Ideal.ofBits .bf16 0xFF80#16 = (⊥ : EReal) := by
  simp [Ideal.ofBits, Ideal.ieee]
/-- The float32 constant 2688. -/
theorem c_f32_2688 : Ideal.ofBits .f32 0x45280000#32 = ((2688 : ℝ) : EReal) := by
  simp [Ideal.ofBits, Ideal.ieee, -EReal.coe_mul]; norm_num
/-- The float32 constant 0. -/
theorem c_f32_0 : Ideal.ofBits .f32 0x00000000#32 = ((0 : ℝ) : EReal) := by
  simp [Ideal.ofBits, Ideal.ieee]
/-- The float32 constant 1. -/
theorem c_f32_1 : Ideal.ofBits .f32 0x3F800000#32 = ((1 : ℝ) : EReal) := by
  simp [Ideal.ofBits, Ideal.ieee, -EReal.coe_mul]; norm_num
/-- The float32 constant 2. -/
theorem c_f32_2 : Ideal.ofBits .f32 0x40000000#32 = ((2 : ℝ) : EReal) := by
  simp [Ideal.ofBits, Ideal.ieee, -EReal.coe_mul]; norm_num
/-- The float32 constant 3. -/
theorem c_f32_3 : Ideal.ofBits .f32 0x40400000#32 = ((3 : ℝ) : EReal) := by
  simp [Ideal.ofBits, Ideal.ieee, -EReal.coe_mul]; norm_num
/-- The float32 constant 4. -/
theorem c_f32_4 : Ideal.ofBits .f32 0x40800000#32 = ((4 : ℝ) : EReal) := by
  simp [Ideal.ofBits, Ideal.ieee, -EReal.coe_mul]; norm_num
/-- The float32 constant 6. -/
theorem c_f32_6 : Ideal.ofBits .f32 0x40C00000#32 = ((6 : ℝ) : EReal) := by
  simp [Ideal.ofBits, Ideal.ieee, -EReal.coe_mul]; norm_num
/-- The float32 constant -6. -/
theorem c_f32_m6 : Ideal.ofBits .f32 0xC0C00000#32 = ((-6 : ℝ) : EReal) := by
  simp [Ideal.ofBits, Ideal.ieee, -EReal.coe_mul, -EReal.coe_neg]; norm_num
/-- The float32 constant 1/2. -/
theorem c_f32_half : Ideal.ofBits .f32 0x3F000000#32 = ((1 / 2 : ℝ) : EReal) := by
  simp [Ideal.ofBits, Ideal.ieee, -EReal.coe_mul]; norm_num
/-- The float32 constant 3/2. -/
theorem c_f32_3h : Ideal.ofBits .f32 0x3FC00000#32 = ((3 / 2 : ℝ) : EReal) := by
  simp [Ideal.ofBits, Ideal.ieee, -EReal.coe_mul]; norm_num
/-- The float32 constant 1/4. -/
theorem c_f32_q1 : Ideal.ofBits .f32 0x3E800000#32 = ((1 / 4 : ℝ) : EReal) := by
  simp [Ideal.ofBits, Ideal.ieee, -EReal.coe_mul]; norm_num
/-- The float32 constant 3/4. -/
theorem c_f32_q3 : Ideal.ofBits .f32 0x3F400000#32 = ((3 / 4 : ℝ) : EReal) := by
  simp [Ideal.ofBits, Ideal.ieee, -EReal.coe_mul]; norm_num
/-- The float32 constant 5/4. -/
theorem c_f32_q5 : Ideal.ofBits .f32 0x3FA00000#32 = ((5 / 4 : ℝ) : EReal) := by
  simp [Ideal.ofBits, Ideal.ieee, -EReal.coe_mul]; norm_num
/-- The float32 constant 7/4. -/
theorem c_f32_q7 : Ideal.ofBits .f32 0x3FE00000#32 = ((7 / 4 : ℝ) : EReal) := by
  simp [Ideal.ofBits, Ideal.ieee, -EReal.coe_mul]; norm_num
/-- The float32 constant 5/2. -/
theorem c_f32_q10 : Ideal.ofBits .f32 0x40200000#32 = ((5 / 2 : ℝ) : EReal) := by
  simp [Ideal.ofBits, Ideal.ieee, -EReal.coe_mul]; norm_num
/-- The float32 constant 7/2. -/
theorem c_f32_q14 : Ideal.ofBits .f32 0x40600000#32 = ((7 / 2 : ℝ) : EReal) := by
  simp [Ideal.ofBits, Ideal.ieee, -EReal.coe_mul]; norm_num
/-- The float32 constant 5. -/
theorem c_f32_5 : Ideal.ofBits .f32 0x40A00000#32 = ((5 : ℝ) : EReal) := by
  simp [Ideal.ofBits, Ideal.ieee, -EReal.coe_mul]; norm_num

/-! ## Rounding to the nearest integer, ties to even -/

/-- The nearest-even rounding is the integer at distance below a half, or at a half and even. -/
theorem rhe_eq (x : ℝ) (n : ℤ) (lo : (n : ℝ) - 1 / 2 ≤ x) (hi : x ≤ (n : ℝ) + 1 / 2)
    (he : Even n ∨ ((n : ℝ) - 1 / 2 < x ∧ x < (n : ℝ) + 1 / 2)) : Ideal.roundHalfEven x = n := by
  unfold Ideal.roundHalfEven
  dsimp only
  by_cases h : (n : ℝ) ≤ x
  · have hf : ⌊x⌋ = n := by rw [Int.floor_eq_iff]; constructor <;> linarith
    rw [hf]
    by_cases h1 : x - n < 1 / 2
    · rw [if_pos h1]
    · rw [if_neg h1, if_neg (by linarith)]
      rcases he with he | ⟨_, he⟩
      · rw [if_pos he]
      · exact absurd (by linarith : x - n < 1 / 2) h1
  · have hf : ⌊x⌋ = n - 1 := by
      rw [Int.floor_eq_iff]; push_cast; constructor <;> linarith
    rw [hf]; push_cast
    rw [if_neg (by linarith)]
    by_cases h1 : 1 / 2 < x - ((n : ℝ) - 1)
    · rw [if_pos h1]; ring
    · rw [if_neg h1]
      rcases he with he | ⟨he, _⟩
      · rw [if_neg (by intro hc; have := Even.sub he hc; simp at this)]; ring
      · exact absurd (by linarith) h1

/-! ## The two codes -/

/-- A condition as a 32-bit word. -/
abbrev bit (c : BitVec 1) : BitVec 32 := c.setWidth 32

/-- The kernel's code of `y`: eight for a negative element, plus one for each midpoint of the E2M1 grid its
    magnitude is past. -/
def kcode (y : EReal) : BitVec 32 :=
  (if Ideal.cmp .olt y ((0 : ℝ) : EReal) = 1 then 8#32 else 0#32)
    + bit (Ideal.cmp .ogt (max y (-y)) ((1 / 4 : ℝ) : EReal)) + bit (Ideal.cmp .oge (max y (-y)) ((3 / 4 : ℝ) : EReal))
    + bit (Ideal.cmp .ogt (max y (-y)) ((5 / 4 : ℝ) : EReal)) + bit (Ideal.cmp .oge (max y (-y)) ((7 / 4 : ℝ) : EReal))
    + bit (Ideal.cmp .ogt (max y (-y)) ((5 / 2 : ℝ) : EReal)) + bit (Ideal.cmp .oge (max y (-y)) ((7 / 2 : ℝ) : EReal))
    + bit (Ideal.cmp .ogt (max y (-y)) ((5 : ℝ) : EReal))

/-- The spacing of the E2M1 grid at `y`. -/
def step (y : EReal) : EReal :=
  if Ideal.cmp .olt (max y (-y)) ((2 : ℝ) : EReal) = 1 then ((1 / 2 : ℝ) : EReal)
  else if Ideal.cmp .olt (max y (-y)) ((4 : ℝ) : EReal) = 1 then ((1 : ℝ) : EReal) else ((2 : ℝ) : EReal)

/-- `y` rounded to the nearest E2M1 value, ties to even. -/
def rnd (y : EReal) : EReal := Ideal.liftRound Ideal.roundHalfEven (Ideal.div y (step y)) * step y

/-- The code of an E2M1 value `q`: eight for a negative one, plus the number of positive E2M1 values not above its
    magnitude. -/
def qcode (q : EReal) : BitVec 32 :=
  (if Ideal.cmp .olt q ((0 : ℝ) : EReal) = 1 then 8#32 else 0#32)
    + (0#32 + bit (Ideal.cmp .oge (max q (-q)) ((1 / 2 : ℝ) : EReal)) + bit (Ideal.cmp .oge (max q (-q)) ((1 : ℝ) : EReal))
    + bit (Ideal.cmp .oge (max q (-q)) ((3 / 2 : ℝ) : EReal)) + bit (Ideal.cmp .oge (max q (-q)) ((2 : ℝ) : EReal))
    + bit (Ideal.cmp .oge (max q (-q)) ((3 : ℝ) : EReal)) + bit (Ideal.cmp .oge (max q (-q)) ((4 : ℝ) : EReal))
    + bit (Ideal.cmp .oge (max q (-q)) ((6 : ℝ) : EReal)))

/-- The reference's code of `y`. -/
def rcode (y : EReal) : BitVec 32 := qcode (rnd y)

/-! ## At a real number -/

/-- The larger of a real and its negative is its absolute value. -/
theorem max_neg_coe (r : ℝ) : max (r : EReal) (-(r : EReal)) = ((|r| : ℝ) : EReal) := by
  rw [← EReal.coe_neg]
  rcases le_total 0 r with h | h
  · rw [abs_of_nonneg h, max_eq_left (EReal.coe_le_coe_iff.mpr (by linarith))]
  · rw [abs_of_nonpos h, max_eq_right (EReal.coe_le_coe_iff.mpr (by linarith))]

/-- The comparison "above" of two reals. -/
theorem cmp_ogt_coe (a c : ℝ) : Ideal.cmp .ogt (a : EReal) (c : EReal) = BitVec.ofBool (decide (c < a)) := by
  simp only [Ideal.cmp, EReal.coe_lt_coe_iff]
/-- The comparison "at least" of two reals. -/
theorem cmp_oge_coe (a c : ℝ) : Ideal.cmp .oge (a : EReal) (c : EReal) = BitVec.ofBool (decide (c ≤ a)) := by
  simp only [Ideal.cmp, EReal.coe_le_coe_iff]
/-- The comparison "below" of two reals. -/
theorem cmp_olt_coe (a c : ℝ) : Ideal.cmp .olt (a : EReal) (c : EReal) = BitVec.ofBool (decide (a < c)) := by
  simp only [Ideal.cmp, EReal.coe_lt_coe_iff]

/-- A quotient of reals by a nonzero real. -/
theorem div_coe (a c : ℝ) (hc : c ≠ 0) : Ideal.div (a : EReal) (c : EReal) = ((a / c : ℝ) : EReal) := by
  unfold Ideal.div
  rw [if_neg (by simpa using hc), ← EReal.coe_inv, ← EReal.coe_mul, div_eq_mul_inv]

/-- Where the spacing is `c` and the quotient rounds to `n`, the rounded value is `n · c`. -/
theorem rnd_of (r c : ℝ) (n : ℤ) (hc : c ≠ 0) (hs : step (r : EReal) = (c : EReal))
    (hr : Ideal.roundHalfEven (r / c) = n) : rnd (r : EReal) = ((n * c : ℝ) : EReal) := by
  unfold rnd
  rw [hs, div_coe r c hc]; show (((Ideal.roundHalfEven (r / c) : ℤ) : ℝ) : EReal) * _ = _; rw [hr, ← EReal.coe_mul]

/-- Below magnitude 2 the spacing is a half. -/
theorem step_lo (r : ℝ) (h : |r| < 2) : step (r : EReal) = ((1 / 2 : ℝ) : EReal) := by
  unfold step
  rw [max_neg_coe, cmp_olt_coe, decide_eq_true h, if_pos (show BitVec.ofBool true = 1 from rfl)]
/-- From magnitude 2 to below 4 the spacing is one. -/
theorem step_mid (r : ℝ) (h : 2 ≤ |r|) (h' : |r| < 4) : step (r : EReal) = ((1 : ℝ) : EReal) := by
  unfold step
  rw [max_neg_coe, cmp_olt_coe, cmp_olt_coe, decide_eq_false (not_lt.mpr h), decide_eq_true h', if_neg (by decide), if_pos (show BitVec.ofBool true = 1 from rfl)]
/-- From magnitude 4 on the spacing is two. -/
theorem step_hi (r : ℝ) (h : 4 ≤ |r|) : step (r : EReal) = ((2 : ℝ) : EReal) := by
  unfold step
  rw [max_neg_coe, cmp_olt_coe, cmp_olt_coe, decide_eq_false (by linarith), decide_eq_false (by linarith), if_neg (by decide),
    if_neg (by decide)]

/-- A rounding of `r / c` from bounds on `|r|`: the sign of `r` goes over to the integer. -/
theorem rnd_abs (r c : ℝ) (k : ℤ) (hc : 0 < c) (hs : step (r : EReal) = (c : EReal))
    (lo : ((k : ℝ) - 1 / 2) * c ≤ |r|) (hi : |r| ≤ ((k : ℝ) + 1 / 2) * c)
    (he : Even k ∨ (((k : ℝ) - 1 / 2) * c < |r| ∧ |r| < ((k : ℝ) + 1 / 2) * c)) :
    rnd (r : EReal) = (((if r < 0 then -(k * c) else k * c) : ℝ) : EReal) := by
  have l1 : (k : ℝ) - 1 / 2 ≤ |r| / c := by rwa [le_div_iff₀ hc]
  have l2 : |r| / c ≤ (k : ℝ) + 1 / 2 := by rwa [div_le_iff₀ hc]
  have l3 : Even k ∨ ((k : ℝ) - 1 / 2 < |r| / c ∧ |r| / c < (k : ℝ) + 1 / 2) :=
    he.imp_right fun h => ⟨by rw [lt_div_iff₀ hc]; exact h.1, by rw [div_lt_iff₀ hc]; exact h.2⟩
  by_cases h : r < 0
  · rw [if_pos h]
    have e : |r| / c = -(r / c) := by rw [abs_of_neg h]; ring
    rw [e] at l1 l2 l3
    have := rnd_of r c (-k) hc.ne' hs (rhe_eq _ _ (by push_cast; linarith) (by push_cast; linarith)
      (l3.imp (fun h => h.neg) fun h => ⟨by push_cast; linarith [h.2], by push_cast; linarith [h.1]⟩))
    rw [this]; push_cast; rw [neg_mul]
  · rw [if_neg h]
    have e : |r| / c = r / c := by rw [abs_of_nonneg (not_lt.mp h)]
    rw [e] at l1 l2 l3
    exact rnd_of r c k hc.ne' hs (rhe_eq _ _ l1 l2 l3)

/-- The kernel's code at a real, from which midpoints its magnitude is past. -/
theorem kcode_coe (r : ℝ) : kcode (r : EReal) =
    (if r < 0 then 8#32 else 0#32)
      + bit (BitVec.ofBool (decide (1 / 4 < |r|))) + bit (BitVec.ofBool (decide (3 / 4 ≤ |r|)))
      + bit (BitVec.ofBool (decide (5 / 4 < |r|))) + bit (BitVec.ofBool (decide (7 / 4 ≤ |r|)))
      + bit (BitVec.ofBool (decide (5 / 2 < |r|))) + bit (BitVec.ofBool (decide (7 / 2 ≤ |r|)))
      + bit (BitVec.ofBool (decide (5 < |r|))) := by
  unfold kcode
  rw [max_neg_coe, cmp_olt_coe, cmp_ogt_coe, cmp_ogt_coe, cmp_ogt_coe, cmp_ogt_coe, cmp_oge_coe, cmp_oge_coe, cmp_oge_coe]
  by_cases h : r < 0
  · rw [decide_eq_true h, if_pos h, if_pos (show BitVec.ofBool true = 1 from rfl)]
  · rw [decide_eq_false h, if_neg h, if_neg (by decide)]

/-- The code of a real, with its comparisons as conditions on the absolute value. -/
theorem qcode_coe (r : ℝ) : qcode (r : EReal) =
    (if r < 0 then 8#32 else 0#32)
      + (0#32 + bit (BitVec.ofBool (decide (1 / 2 ≤ |r|))) + bit (BitVec.ofBool (decide (1 ≤ |r|)))
      + bit (BitVec.ofBool (decide (3 / 2 ≤ |r|))) + bit (BitVec.ofBool (decide (2 ≤ |r|)))
      + bit (BitVec.ofBool (decide (3 ≤ |r|))) + bit (BitVec.ofBool (decide (4 ≤ |r|)))
      + bit (BitVec.ofBool (decide (6 ≤ |r|)))) := by
  unfold qcode
  rw [max_neg_coe, cmp_olt_coe, cmp_oge_coe, cmp_oge_coe, cmp_oge_coe, cmp_oge_coe, cmp_oge_coe, cmp_oge_coe, cmp_oge_coe]
  by_cases h : r < 0
  · rw [decide_eq_true h, if_pos h, if_pos (show BitVec.ofBool true = 1 from rfl)]
  · rw [decide_eq_false h, if_neg h, if_neg (by decide)]

/-- The kernel's code from the seven comparisons' outcomes. -/
theorem kcode_of (r : ℝ) (b1 b2 b3 b4 b5 b6 b7 : Bool) (h1 : decide (1 / 4 < |r|) = b1) (h2 : decide (3 / 4 ≤ |r|) = b2)
    (h3 : decide (5 / 4 < |r|) = b3) (h4 : decide (7 / 4 ≤ |r|) = b4) (h5 : decide (5 / 2 < |r|) = b5)
    (h6 : decide (7 / 2 ≤ |r|) = b6) (h7 : decide (5 < |r|) = b7) :
    kcode (r : EReal) = (if r < 0 then 8#32 else 0#32) + bit (BitVec.ofBool b1) + bit (BitVec.ofBool b2)
      + bit (BitVec.ofBool b3) + bit (BitVec.ofBool b4) + bit (BitVec.ofBool b5) + bit (BitVec.ofBool b6) + bit (BitVec.ofBool b7) := by
  rw [kcode_coe, h1, h2, h3, h4, h5, h6, h7]

/-- The code of the value `±q`, `q` of the grid's non-negative half, from `q`'s own comparisons. -/
theorem qcode_sgn (r q : ℝ) (hq : 0 ≤ q) : qcode (((if r < 0 then -q else q) : ℝ) : EReal) =
    (if r < 0 ∧ 0 < q then 8#32 else 0#32)
      + (0#32 + bit (BitVec.ofBool (decide (1 / 2 ≤ q))) + bit (BitVec.ofBool (decide (1 ≤ q)))
      + bit (BitVec.ofBool (decide (3 / 2 ≤ q))) + bit (BitVec.ofBool (decide (2 ≤ q)))
      + bit (BitVec.ofBool (decide (3 ≤ q))) + bit (BitVec.ofBool (decide (4 ≤ q)))
      + bit (BitVec.ofBool (decide (6 ≤ q)))) := by
  rw [qcode_coe]
  have ha : |if r < 0 then -q else q| = q := by
    split
    · rw [abs_neg, abs_of_nonneg hq]
    · rw [abs_of_nonneg hq]
  have hs : ((if r < 0 then -q else q) < 0) ↔ (r < 0 ∧ 0 < q) := by
    by_cases h : r < 0
    · simp [h]
    · simp [h, not_lt.mpr hq]
  rw [ha]
  by_cases h : r < 0 ∧ 0 < q
  · rw [if_pos h, if_pos (hs.mpr h)]
  · rw [if_neg h, if_neg (fun h' => h (hs.mp h'))]

/-- What the theorem below says of a real: the kernel's code is below sixteen, and the reference's is it but for 8,
    where the reference's is 0. -/
abbrev Agree (y : EReal) : Prop :=
  ∃ n : ℕ, n < 16 ∧ kcode y = BitVec.ofNat 32 n ∧ rcode y = BitVec.ofNat 32 (if n = 8 then 0 else n)

/-- The two codes agree at a real whose rounding to the grid, and whose seven comparisons with the midpoints, are known. -/
theorem agree_of (r c : ℝ) (k : ℤ) (q : ℝ) (n : ℕ) (hn : n < 8) (hc : 0 < c) (hs : step (r : EReal) = (c : EReal))
    (lo : ((k : ℝ) - 1 / 2) * c ≤ |r|) (hi : |r| ≤ ((k : ℝ) + 1 / 2) * c)
    (he : Even k ∨ (((k : ℝ) - 1 / 2) * c < |r| ∧ |r| < ((k : ℝ) + 1 / 2) * c))
    (hq : k * c = q) (h0 : 0 ≤ q) (hqn : 0 < q ↔ n ≠ 0)
    (hk : kcode (r : EReal) = BitVec.ofNat 32 (if r < 0 then 8 + n else n))
    (hv : 0#32 + bit (BitVec.ofBool (decide (1 / 2 ≤ q))) + bit (BitVec.ofBool (decide (1 ≤ q)))
      + bit (BitVec.ofBool (decide (3 / 2 ≤ q))) + bit (BitVec.ofBool (decide (2 ≤ q)))
      + bit (BitVec.ofBool (decide (3 ≤ q))) + bit (BitVec.ofBool (decide (4 ≤ q)))
      + bit (BitVec.ofBool (decide (6 ≤ q))) = BitVec.ofNat 32 n) : Agree (r : EReal) := by
  refine ⟨if r < 0 then 8 + n else n, by split <;> omega, hk, ?_⟩
  unfold rcode
  rw [rnd_abs r c k hc hs lo hi he, hq, qcode_sgn r q h0, hv]
  by_cases h : r < 0
  · by_cases hn0 : n = 0
    · subst hn0
      have : ¬ (0 < q) := by rw [hqn]; simp
      simp [h, this]
    · rw [if_pos ⟨h, hqn.mpr hn0⟩]
      simp only [h, if_true]
      rw [if_neg (by omega), BitVec.ofNat_add]
  · rw [if_neg (fun h' => h h'.1)]
    simp only [h, if_false]
    rw [if_neg (by omega)]; simp

/-- The two codes agree at every real of magnitude at most 6: the eight intervals between midpoints, one by one. -/
theorem agree_real (r : ℝ) (h6 : |r| ≤ 6) : Agree (r : EReal) := by
  have ha : 0 ≤ |r| := abs_nonneg r
  have K := kcode_of r
  by_cases c1 : |r| ≤ 1 / 4
  · refine agree_of r (1 / 2) 0 0 0 (by norm_num) (by norm_num) (step_lo r (by linarith)) (by push_cast; linarith)
      (by push_cast; linarith) (.inl (by decide)) (by norm_num) (by norm_num) (by norm_num) ?_ (by norm_num <;> decide)
    rw [K false false false false false false false (decide_eq_false (by linarith)) (decide_eq_false (by linarith))
      (decide_eq_false (by linarith)) (decide_eq_false (by linarith)) (decide_eq_false (by linarith))
      (decide_eq_false (by linarith)) (decide_eq_false (by linarith))]
    split <;> decide
  by_cases c2 : |r| < 3 / 4
  · refine agree_of r (1 / 2) 1 (1 / 2) 1 (by norm_num) (by norm_num) (step_lo r (by linarith)) (by push_cast; linarith)
      (by push_cast; linarith) (.inr ⟨by push_cast; linarith, by push_cast; linarith⟩) (by norm_num) (by norm_num) (by norm_num) ?_ (by norm_num <;> decide)
    rw [K true false false false false false false (decide_eq_true (by linarith)) (decide_eq_false (by linarith))
      (decide_eq_false (by linarith)) (decide_eq_false (by linarith)) (decide_eq_false (by linarith))
      (decide_eq_false (by linarith)) (decide_eq_false (by linarith))]
    split <;> decide
  by_cases c3 : |r| ≤ 5 / 4
  · refine agree_of r (1 / 2) 2 1 2 (by norm_num) (by norm_num) (step_lo r (by linarith)) (by push_cast; linarith)
      (by push_cast; linarith) (.inl (by decide)) (by norm_num) (by norm_num) (by norm_num) ?_ (by norm_num <;> decide)
    rw [K true true false false false false false (decide_eq_true (by linarith)) (decide_eq_true (by linarith))
      (decide_eq_false (by linarith)) (decide_eq_false (by linarith)) (decide_eq_false (by linarith))
      (decide_eq_false (by linarith)) (decide_eq_false (by linarith))]
    split <;> decide
  by_cases c4 : |r| < 7 / 4
  · refine agree_of r (1 / 2) 3 (3 / 2) 3 (by norm_num) (by norm_num) (step_lo r (by linarith)) (by push_cast; linarith)
      (by push_cast; linarith) (.inr ⟨by push_cast; linarith, by push_cast; linarith⟩) (by norm_num) (by norm_num) (by norm_num) ?_ (by norm_num <;> decide)
    rw [K true true true false false false false (decide_eq_true (by linarith)) (decide_eq_true (by linarith))
      (decide_eq_true (by linarith)) (decide_eq_false (by linarith)) (decide_eq_false (by linarith))
      (decide_eq_false (by linarith)) (decide_eq_false (by linarith))]
    split <;> decide
  have K4 := K true true true true false false false (decide_eq_true (by linarith)) (decide_eq_true (by linarith))
      (decide_eq_true (by linarith)) (decide_eq_true (by linarith))
  by_cases c5 : |r| < 2
  · refine agree_of r (1 / 2) 4 2 4 (by norm_num) (by norm_num) (step_lo r (by linarith)) (by push_cast; linarith)
      (by push_cast; linarith) (.inl (by decide)) (by norm_num) (by norm_num) (by norm_num) ?_ (by norm_num <;> decide)
    rw [K4 (decide_eq_false (by linarith)) (decide_eq_false (by linarith)) (decide_eq_false (by linarith))]
    split <;> decide
  by_cases c6 : |r| ≤ 5 / 2
  · refine agree_of r 1 2 2 4 (by norm_num) (by norm_num) (step_mid r (by linarith) (by linarith)) (by push_cast; linarith)
      (by push_cast; linarith) (.inl (by decide)) (by norm_num) (by norm_num) (by norm_num) ?_ (by norm_num <;> decide)
    rw [K4 (decide_eq_false (by linarith)) (decide_eq_false (by linarith)) (decide_eq_false (by linarith))]
    split <;> decide
  by_cases c7 : |r| < 7 / 2
  · refine agree_of r 1 3 3 5 (by norm_num) (by norm_num) (step_mid r (by linarith) (by linarith)) (by push_cast; linarith)
      (by push_cast; linarith) (.inr ⟨by push_cast; linarith, by push_cast; linarith⟩) (by norm_num) (by norm_num) (by norm_num) ?_ (by norm_num <;> decide)
    rw [K true true true true true false false (decide_eq_true (by linarith)) (decide_eq_true (by linarith))
      (decide_eq_true (by linarith)) (decide_eq_true (by linarith)) (decide_eq_true (by linarith))
      (decide_eq_false (by linarith)) (decide_eq_false (by linarith))]
    split <;> decide
  have K6 := K true true true true true true false (decide_eq_true (by linarith)) (decide_eq_true (by linarith))
      (decide_eq_true (by linarith)) (decide_eq_true (by linarith)) (decide_eq_true (by linarith)) (decide_eq_true (by linarith))
  by_cases c8 : |r| < 4
  · refine agree_of r 1 4 4 6 (by norm_num) (by norm_num) (step_mid r (by linarith) (by linarith)) (by push_cast; linarith)
      (by push_cast; linarith) (.inl (by decide)) (by norm_num) (by norm_num) (by norm_num) ?_ (by norm_num <;> decide)
    rw [K6 (decide_eq_false (by linarith))]
    split <;> decide
  by_cases c9 : |r| ≤ 5
  · refine agree_of r 2 2 4 6 (by norm_num) (by norm_num) (step_hi r (by linarith)) (by push_cast; linarith)
      (by push_cast; linarith) (.inl (by decide)) (by norm_num) (by norm_num) (by norm_num) ?_ (by norm_num <;> decide)
    rw [K6 (decide_eq_false (by linarith))]
    split <;> decide
  · refine agree_of r 2 3 6 7 (by norm_num) (by norm_num) (step_hi r (by linarith)) (by push_cast; linarith)
      (by push_cast; linarith) (.inr ⟨by push_cast; linarith, by push_cast; linarith⟩) (by norm_num) (by norm_num) (by norm_num) ?_ (by norm_num <;> decide)
    rw [K true true true true true true true (decide_eq_true (by linarith)) (decide_eq_true (by linarith))
      (decide_eq_true (by linarith)) (decide_eq_true (by linarith)) (decide_eq_true (by linarith))
      (decide_eq_true (by linarith)) (decide_eq_true (by linarith))]
    split <;> decide

/-- Of every extended real clipped to `[-6, 6]`, the kernel's code is below sixteen, and the reference's is the
    kernel's but where that is 8 (a negative number that rounds to zero), where it is 0. -/
theorem agree (z : EReal) : Agree (min ((6 : ℝ) : EReal) (max ((-6 : ℝ) : EReal) z)) := by
  have lo : ((-6 : ℝ) : EReal) ≤ min ((6 : ℝ) : EReal) (max ((-6 : ℝ) : EReal) z) :=
    le_min (EReal.coe_le_coe_iff.mpr (by norm_num)) (le_max_left _ _)
  have hi : min ((6 : ℝ) : EReal) (max ((-6 : ℝ) : EReal) z) ≤ ((6 : ℝ) : EReal) := min_le_left _ _
  generalize min ((6 : ℝ) : EReal) (max ((-6 : ℝ) : EReal) z) = y at lo hi
  induction y using EReal.rec with
  | bot => exact absurd lo (by simp)
  | top => exact absurd hi (by simp)
  | coe r => exact agree_real r (abs_le.mpr ⟨EReal.coe_le_coe_iff.mp lo, EReal.coe_le_coe_iff.mp hi⟩)

end Cert.Codes

end
-- ==== Proof.Amax.lean ====
/-
  The first grid: a running maximum of the input's absolute values, kept per (token within a block, lane within a block).
  It is characterised by what it is at most.
-/
module

public import proofs.«01_k».proof.Proof.Gen.KernelIdeal.Frame
public import proofs.«01_k».proof.Proof.Codes
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Codes

/-- The two-coordinate zero offset is zero everywhere. -/
theorem hz2 : (![0, 0] : Fin 2 → Nat) = fun _ => 0 := funext fun a => by fin_cases a <;> rfl
/-- The three-coordinate zero offset is zero everywhere. -/
theorem hz3 : (![0, 0, 0] : Fin 3 → Nat) = fun _ => 0 := funext fun a => by fin_cases a <;> rfl

section Cases
variable {F : FTy → Type} [FloatOps F]

/-- A later point leaves the maximum of what it found and its block. -/
theorem amax_B (c : Dev nD) (i : grid0.Coords) (a1 : Memref sig .tc .vmem S1x1024x512 .bf16) (h1 : a1.IsWhole)
    (a2 : Memref sig .tc .vmem S16x512 .bf16) (h2 : a2.IsWhole) (hc : ¬cond0_0 i) (x : Vec F S1x1024x512 .bf16) (xo : Vec F S16x512 .bf16) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero hz2]
  simp only [View.readAt_eq_ld, h1.read_unread, h2.read_unread, View.ld_unit_zero (S := S16x512) hz2, View.ld_unit_zero (S := S1x1024x512) hz3]

/-- The first point leaves the maximum of zero and its block. -/
theorem amax_A (c : Dev nD) (i : grid0.Coords) (a1 : Memref sig .tc .vmem S1x1024x512 .bf16) (h1 : a1.IsWhole)
    (a2 : Memref sig .tc .vmem S16x512 .bf16) (h2 : a2.IsWhole) (hc : cond0_0 i) (x : Vec F S1x1024x512 .bf16) :
    out0_A_1 c i a1 h1 a2 h2 hc x = k0_pay2 x k0_pay1 := by
  unfold out0_A_1
  rw [View.read_writes_eq_canon _ _ _ (cover0_A_1 c i a1 h1 a2 h2 hc x)]
  unfold kernelRun0_A
  dsimp only
  sl_unfold_words
  rw [View.canon_cons_unit_zero (S := S16x512) hz2, View.readCov_unit_zero (S := S16x512) _ hz2]
  simp only [View.readAt_eq_ld, h1.read_unread, View.ld_unit_zero (S := S1x1024x512) hz3]

end Cases

/-- One block's step: at most `z` exactly when what was kept is, and the 64 rows' absolute values are. -/
theorem pay2_le (x : Vec Ideal S1x1024x512 .bf16) (xo : Vec Ideal S16x512 .bf16) (a : Fin 16) (l : Fin 512) (z : EReal) :
    k0_pay2 x xo (ix2 a l) ≤ z ↔
      xo (ix2 a l) ≤ z ∧ ∀ k : Fin 64, max (x (ix3 0 (⟨k.val * 16 + a.val, by omega⟩ : Fin 1024) l)) (-(x (ix3 0 (⟨k.val * 16 + a.val, by omega⟩ : Fin 1024) l))) ≤ z := by
  pointwise [k0_pay2]
  rw [max_le_iff, Finset.fold_max_le, c_bf16_neginf]
  refine and_congr Iff.rfl ⟨fun h k => h.2 k (Finset.mem_univ _), fun h => ⟨bot_le, fun k _ => h k⟩⟩

/-- The value kept before the first block. -/
theorem pay1_at (a : Fin 16) (l : Fin 512) : k0_pay1 (F := Ideal) (ix2 a l) = (0 : EReal) := by
  pointwise [k0_pay1]

variable (V : (c : Dev nD) → (b : Ref sig .tc) → Buf (Elt Ideal) ((c : Thread nD τ).loc b))

/-- The input's block at a point. -/
def blk0 (c : Dev nD) (t : Fin cfg0.N) : Vec Ideal S1x1024x512 .bf16 := iblk0 V c 0 t

/-- An absolute value of the input's block at a point. -/
def absBlk (c : Dev nD) (t : Fin cfg0.N) (r : Fin 1024) (l : Fin 512) : EReal := max (blk0 V c t (ix3 0 r l)) (-(blk0 V c t (ix3 0 r l)))

/-- The input as an array of extended reals. -/
def arg (c : Dev nD) : S16x1024x9216.Idx → EReal := V c main_arg0

/-- The array the first grid leaves. -/
def kept (c : Dev nD) : S16x512.Idx → EReal := (dat0 V c).arrAt 1 cfg0.N

/-- What is kept after point `n` is at most `z` exactly when zero is and every absolute value met so far is. -/
theorem outs_le (c : Dev nD) (a : Fin 16) (l : Fin 512) (z : EReal) (n : ℕ) (hn : n < cfg0.N) :
    (outsAt0 V c n hn : Vec Ideal S16x512 .bf16) (ix2 a l) ≤ z ↔
      0 ≤ z ∧ ∀ t : Fin cfg0.N, t.val ≤ n → ∀ k : Fin 64, absBlk V c t (⟨k.val * 16 + a.val, by omega⟩ : Fin 1024) l ≤ z := by
  have hN : cfg0.N = 288 := N_0
  induction n with
  | zero =>
    rw [(outsAt0_A V c ⟨0, hn⟩ rfl : outsAt0 V c 0 hn = _), amax_A, pay2_le, pay1_at]
    refine and_congr Iff.rfl ⟨fun h t ht k => ?_, fun h k => h ⟨0, hn⟩ (Nat.le_refl _) k⟩
    obtain rfl : t = ⟨0, hn⟩ := Fin.ext (Nat.le_zero.mp ht)
    exact h k
  | succ n ih =>
    have ih0 := ih (show n < cfg0.N by omega)
    rw [(outsAt0_B V c ⟨n + 1, hn⟩ (show ¬(n + 1) % 288 = 0 by omega) : outsAt0 V c (n + 1) hn = _), amax_B, pay2_le]
    rw [show (outsAt0 V c ((⟨n + 1, hn⟩ : Fin cfg0.N).val - 1) _ : Vec Ideal S16x512 .bf16) = outsAt0 V c n (by omega) from rfl]
    refine (and_congr ih0 Iff.rfl).trans ?_
    rw [and_assoc]
    refine and_congr Iff.rfl ⟨fun h t ht k => ?_, fun h => ⟨fun t ht k => h t (Nat.le_succ_of_le ht) k, fun k => h ⟨n + 1, hn⟩ (Nat.le_refl _) k⟩⟩
    rcases Nat.lt_or_ge n t.val with h' | h'
    · obtain rfl : t = ⟨n + 1, hn⟩ := Fin.ext (Nat.le_antisymm ht h')
      exact h.2 k
    · exact h.1 t h' k

/-- The input block of grid point `t` is at batch `t / 18`, all tokens, column block `t % 18`. -/
theorem index0_0 : ∀ t : Fin cfg0.N, win0_0.index t = ![t.val / 18, 0, t.val % 18] := by decide +kernel

/-- An element of the input's block at a point is an element of the whole input. -/
theorem iblk0_at (c : Dev nD) (t : Fin cfg0.N) (r : Fin 1024) (l : Fin 512) (b : Fin 16) (d : Fin 9216) (hb : b.val = t.val / 18)
    (hd : d.val = 512 * (t.val % 18) + l.val) :
    blk0 V c t (ix3 0 r l) = arg V c (ix3 b r d) := by
  unfold blk0 iblk0 arg
  rw [View.read_apply]
  show V c main_arg0 _ = V c main_arg0 _
  congr 1
  funext a
  apply Fin.ext
  refine (win0_0.rect_emb_val t _ a).trans ?_
  rw [index0_0]
  match a with
  | ⟨0, _⟩ => show t.val / 18 * 1 + 0 = b.val; omega
  | ⟨1, _⟩ => show 0 * 1024 + r.val = r.val; omega
  | ⟨2, _⟩ => show t.val % 18 * 512 + l.val = d.val; omega

/-- The last point of the first grid. -/
def tLast : Fin cfg0.N := ⟨287, by decide +kernel⟩

/-- The kept array is what the last point leaves. -/
theorem kept_of (c : Dev nD) (f : Vec Ideal S16x512 .bf16) (hf : (dat0 V c).after 1 tLast = f) (a : Fin 16) (l : Fin 512) :
    kept V c (ix2 a l) = f (ix2 a l) := by
  subst hf
  exact (dat0 V c).arrAt_emb_eq_after_last 1 tLast (by decide +kernel) (ix2 a l)

/-- The kept array is at most `z` exactly when zero is and every absolute value met is. -/
theorem kept_le (c : Dev nD) (a : Fin 16) (l : Fin 512) (z : EReal) :
    kept V c (ix2 a l) ≤ z ↔ 0 ≤ z ∧ ∀ t : Fin cfg0.N, ∀ k : Fin 64, absBlk V c t (⟨k.val * 16 + a.val, by omega⟩ : Fin 1024) l ≤ z := by
  rw [kept_of V c _ (after0_1 V c tLast) a l, outs_le]
  exact and_congr Iff.rfl ⟨fun h t => h t (Nat.le_of_lt_succ (lt_of_lt_of_eq t.isLt N_0)), fun h t _ => h t⟩

/-- The largest absolute value kept anywhere is at most `z` exactly when zero is and every absolute value of the input is. -/
theorem amax_all_le (c : Dev nD) (z : EReal) :
    (∀ (a : Fin 16) (l : Fin 512), kept V c (ix2 a l) ≤ z) ↔
      0 ≤ z ∧ ∀ (b : Fin 16) (r : Fin 1024) (d : Fin 9216), max (arg V c (ix3 b r d)) (-(arg V c (ix3 b r d))) ≤ z := by
  have hN : cfg0.N = 288 := N_0
  simp only [kept_le]
  constructor
  · refine fun h => ⟨(h 0 0).1, fun b r d => ?_⟩
    have := (h ⟨r.val % 16, by omega⟩ ⟨d.val % 512, by omega⟩).2 ⟨b.val * 18 + d.val / 512, by omega⟩ ⟨r.val / 16, by omega⟩
    unfold absBlk at this
    rw [iblk0_at V c _ _ _ b d (by show b.val = (b.val * 18 + d.val / 512) / 18; omega)
      (by show d.val = 512 * ((b.val * 18 + d.val / 512) % 18) + d.val % 512; omega)] at this
    rwa [show (⟨r.val / 16 * 16 + r.val % 16, by omega⟩ : Fin 1024) = r from Fin.ext (by show r.val / 16 * 16 + r.val % 16 = r.val; omega)] at this
  · refine fun h a l => ⟨h.1, fun t k => ?_⟩
    unfold absBlk
    rw [iblk0_at V c t _ l ⟨t.val / 18, by omega⟩ ⟨512 * (t.val % 18) + l.val, by omega⟩ rfl rfl]
    exact h.2 _ _ _

end Cert.KernelIdeal.Value
-- ==== Proof.Tile.lean ====
/-
  The quantiser's loop, one trip: four tiles of 256 tokens by 128 lanes. The printed program cuts the four tiles'
  expressions at different places; here all four are one function of the tile they load.
-/
module

public import proofs.«01_k».proof.Proof.Gen.KernelIdeal.Frame
public import Idealize.ShloMosaic.Lib.Pointwise

@[expose] public section

set_option maxRecDepth 16384

noncomputable section

namespace Cert.KernelIdeal.Value

open Idealize.ShloMosaic Idealize.ShloMosaic.TcCoe Idealize.ShloMosaic.Tactic
open Cert.KernelIdeal Cert.KernelIdeal.Gen

variable {F : FTy → Type} [FloatOps F]

/-- The block scales of a tile, as stored. -/
def sbTile (v0 : Elt F .f32) (v : Vec F S1x256x128 .bf16) : FVec F S1x16x128 .fp8e4m3 := k1_pay4 v0 v

/-- The codes of a tile, eight tokens to a group. -/
def codeTile (v0 : Elt F .f32) (v : Vec F S1x256x128 .bf16) : IVec S32x8x128 32 :=
  k1_pay10 (k1_pay6 v0 v) (k1_pay7 v0 v) k1_pay8 k1_pay9

/-- The packed bytes of a tile, as stored. -/
def packTile (v0 : Elt F .f32) (v : Vec F S1x256x128 .bf16) : IVec S1x128x128 8 :=
  k1_pay16 (k1_pay10 (k1_pay6 v0 v) (k1_pay7 v0 v) k1_pay8 k1_pay9) (k1_pay11 (k1_pay6 v0 v) (k1_pay7 v0 v) k1_pay8 k1_pay9)
    (k1_pay12 (k1_pay6 v0 v) (k1_pay7 v0 v) k1_pay8 k1_pay9) (k1_pay13 (k1_pay6 v0 v) (k1_pay7 v0 v) k1_pay8 k1_pay9)
    (k1_pay14 (k1_pay6 v0 v) (k1_pay7 v0 v) k1_pay8 k1_pay9) (k1_pay15 (k1_pay6 v0 v) (k1_pay7 v0 v) k1_pay8 k1_pay9) 16#32

section Trip
variable (𝒱 : Variants) (c : Dev nD) (bd : Option 𝒱.V) (i : grid1.Coords) (arg2 : Memref sig .tc .smem S1 .f32) (harg2 : arg2.IsWhole)
  (arg3 : Memref sig .tc .vmem S1x1024x512 .bf16) (harg3 : arg3.IsWhole) (arg4 : Memref sig .tc .vmem S1x512x512 .i8) (harg4 : arg4.IsWhole)
  (arg5 : Memref sig .tc .vmem S1x64x512 .fp8e4m3) (harg5 : arg5.IsWhole) (v0 : Elt F .f32) (X : BufTy.Contents (Elt F) arg3.view.ty)
  (k : Fin k1_t1_loop.trips)

/-- One trip's stores: tile by tile, each a function of the tile it loads. -/
theorem tripL_eq : tripL_k1_t1 (F := F) 𝒱 c bd i arg2 harg2 arg3 harg3 arg4 harg4 arg5 harg5 v0 X k
    = ([⟨Rect.unit (k1_off12 k) S1x128x128.size (k1_off12_inb k), packTile v0 (View.readAt (Elt F) arg3.view (Rect.unit (s := S1x1024x512) (k1_off10 k) S1x256x128.size (k1_off10_inb k)).toLoadRect X)⟩,
       ⟨Rect.unit (k1_off9 k) S1x128x128.size (k1_off9_inb k), packTile v0 (View.readAt (Elt F) arg3.view (Rect.unit (s := S1x1024x512) (k1_off7 k) S1x256x128.size (k1_off7_inb k)).toLoadRect X)⟩,
       ⟨Rect.unit (k1_off6 k) S1x128x128.size (k1_off6_inb k), packTile v0 (View.readAt (Elt F) arg3.view (Rect.unit (s := S1x1024x512) (k1_off4 k) S1x256x128.size (k1_off4_inb k)).toLoadRect X)⟩,
       ⟨Rect.unit (k1_off3 k) S1x128x128.size (k1_off3_inb k), packTile v0 (View.readAt (Elt F) arg3.view (Rect.unit (s := S1x1024x512) (k1_off1 k) S1x256x128.size (k1_off1_inb k)).toLoadRect X)⟩],
      [⟨Rect.unit (k1_off11 k) S1x16x128.size (k1_off11_inb k), sbTile v0 (View.readAt (Elt F) arg3.view (Rect.unit (s := S1x1024x512) (k1_off10 k) S1x256x128.size (k1_off10_inb k)).toLoadRect X)⟩,
       ⟨Rect.unit (k1_off8 k) S1x16x128.size (k1_off8_inb k), sbTile v0 (View.readAt (Elt F) arg3.view (Rect.unit (s := S1x1024x512) (k1_off7 k) S1x256x128.size (k1_off7_inb k)).toLoadRect X)⟩,
       ⟨Rect.unit (k1_off5 k) S1x16x128.size (k1_off5_inb k), sbTile v0 (View.readAt (Elt F) arg3.view (Rect.unit (s := S1x1024x512) (k1_off4 k) S1x256x128.size (k1_off4_inb k)).toLoadRect X)⟩,
       ⟨Rect.unit (k1_off2 k) S1x16x128.size (k1_off2_inb k), sbTile v0 (View.readAt (Elt F) arg3.view (Rect.unit (s := S1x1024x512) (k1_off1 k) S1x256x128.size (k1_off1_inb k)).toLoadRect X)⟩]) := by
  dsimp only [tripL_k1_t1]
  unfold trip_k1_t1
  rfl

end Trip

/-- What holds of every trip's pieces holds of the pieces of the trips before `n`. -/
theorem pb_forall (𝒱 : Variants) (c : Dev nD) (bd : Option 𝒱.V) (i : grid1.Coords) (arg2 : Memref sig .tc .smem S1 .f32) (harg2 : arg2.IsWhole)
    (arg3 : Memref sig .tc .vmem S1x1024x512 .bf16) (harg3 : arg3.IsWhole) (arg4 : Memref sig .tc .vmem S1x512x512 .i8) (harg4 : arg4.IsWhole)
    (arg5 : Memref sig .tc .vmem S1x64x512 .fp8e4m3) (harg5 : arg5.IsWhole) (v0 : Elt F .f32) (X : BufTy.Contents (Elt F) arg3.view.ty)
    (P : View.Piece (Elt F) S1x512x512 .i8 → Prop) (Q : View.Piece (Elt F) S1x64x512 .fp8e4m3 → Prop)
    (hP : ∀ k, ∀ p ∈ (tripL_k1_t1 (F := F) 𝒱 c bd i arg2 harg2 arg3 harg3 arg4 harg4 arg5 harg5 v0 X k).1, P p)
    (hQ : ∀ k, ∀ p ∈ (tripL_k1_t1 (F := F) 𝒱 c bd i arg2 harg2 arg3 harg3 arg4 harg4 arg5 harg5 v0 X k).2, Q p) :
    ∀ n, n ≤ k1_t1_loop.trips →
      (∀ p ∈ (pb_k1_t1 (F := F) 𝒱 c bd i arg2 harg2 arg3 harg3 arg4 harg4 arg5 harg5 v0 X n).1, P p)
      ∧ (∀ p ∈ (pb_k1_t1 (F := F) 𝒱 c bd i arg2 harg2 arg3 harg3 arg4 harg4 arg5 harg5 v0 X n).2, Q p) := by
  intro n
  induction n with
  | zero => intro _; exact ⟨fun p hp => absurd hp List.not_mem_nil, fun p hp => absurd hp List.not_mem_nil⟩
  | succ n ih =>
    intro hn
    obtain ⟨ih1, ih2⟩ := ih (by omega)
    have e := pb_k1_t1_succ (F := F) 𝒱 c bd i arg2 harg2 arg3 harg3 arg4 harg4 arg5 harg5 v0 X ⟨n, hn⟩
    dsimp only at e
    rw [e]
    refine ⟨fun p hp => ?_, fun p hp => ?_⟩
    · rcases List.mem_append.mp hp with h | h
      · exact hP _ p h
      · exact ih1 p h
    · rcases List.mem_append.mp hp with h | h
      · exact hQ _ p h
      · exact ih2 p h

/-- A block's pieces are the four trips' pieces, over the first input's one number. -/
theorem kernelRun1_eq (c : Dev nD) (i : grid1.Coords) (arg2 : Memref sig .tc .smem S1 .f32) (harg2 : arg2.IsWhole)
    (arg3 : Memref sig .tc .vmem S1x1024x512 .bf16) (harg3 : arg3.IsWhole) (arg4 : Memref sig .tc .vmem S1x512x512 .i8) (harg4 : arg4.IsWhole)
    (arg5 : Memref sig .tc .vmem S1x64x512 .fp8e4m3) (harg5 : arg5.IsWhole) (x0 : Vec F S1 .f32) (x1 : Vec F S1x1024x512 .bf16) :
    (kernelRun1_A c i arg2 harg2 arg3 harg3 arg4 harg4 arg5 harg5 x0 x1).1
      = (pb_k1_t1 (F := F) Variants.none c none i arg2 harg2 arg3 harg3 arg4 harg4 arg5 harg5
          (x0 (ix1 ⟨0, Nat.zero_lt_one⟩)) (harg3.unread x1) k1_t1_loop.trips).1
    ∧ (kernelRun1_A c i arg2 harg2 arg3 harg3 arg4 harg4 arg5 harg5 x0 x1).2.1
      = (pb_k1_t1 (F := F) Variants.none c none i arg2 harg2 arg3 harg3 arg4 harg4 arg5 harg5
          (x0 (ix1 ⟨0, Nat.zero_lt_one⟩)) (harg3.unread x1) k1_t1_loop.trips).2 := by
  have e : kernelRun1_A.sl.r c arg2 harg2 x0 = x0 (ix1 ⟨0, Nat.zero_lt_one⟩) := by
    unfold kernelRun1_A.sl.r
    show arg2.view.read (Elt F) (harg2.unread x0) _ = _
    rw [harg2.read_unread]
    congr 1
    funext a
    match a with
    | ⟨0, _⟩ => exact Fin.ext (Nat.lt_one_iff.mp (Fin.isLt _))
  unfold kernelRun1_A
  dsimp only
  rw [e]
  exact ⟨rfl, rfl⟩

end Cert.KernelIdeal.Value
-- ==== Proof.Nibbles.lean ====
/-
  Eight four-bit codes in a 32-bit word: joining them, replacing every code 8 by 0 with one mask, and reading one byte
  of the result back as two codes.
-/
module

public import Idealize.ShloMosaic.Init
public import Idealize.ShloMosaic.PureOps.Float
public import Mathlib.Data.Nat.Bitwise
public import Mathlib.Tactic.IntervalCases

@[expose] public section

set_option maxRecDepth 16384

namespace Cert.Nibbles

open Idealize.ShloMosaic

/-! ## Base-sixteen digits and the bitwise operations -/

/-- The bits of a number with base-sixteen digit `a` put below `x`. -/
theorem testBit_cons (a x j : ℕ) (ha : a < 16) : (16 * x + a).testBit j = if j < 4 then a.testBit j else x.testBit (j - 4) :=
  Nat.testBit_two_pow_mul_add (i := 4) x ha j

/-- The conjunction of two numbers, the lowest base-sixteen digit taken off. -/
theorem and_cons (a b x y : ℕ) (ha : a < 16) (hb : b < 16) : (16 * x + a) &&& (16 * y + b) = 16 * (x &&& y) + (a &&& b) := by
  apply Nat.eq_of_testBit_eq
  intro j
  rw [Nat.testBit_and, testBit_cons a x j ha, testBit_cons b y j hb,
    testBit_cons (a &&& b) _ j (Nat.lt_of_le_of_lt Nat.and_le_left ha)]
  split <;> rw [Nat.testBit_and]

/-- The disjunction of two numbers, the lowest base-sixteen digit taken off. -/
theorem or_cons (a b x y : ℕ) (ha : a < 16) (hb : b < 16) : (16 * x + a) ||| (16 * y + b) = 16 * (x ||| y) + (a ||| b) := by
  apply Nat.eq_of_testBit_eq
  intro j
  rw [Nat.testBit_or, testBit_cons a x j ha, testBit_cons b y j hb,
    testBit_cons (a ||| b) _ j (Nat.or_lt_two_pow (n := 4) ha hb)]
  split <;> rw [Nat.testBit_or]

/-- Eight base-sixteen digits, `a` the lowest. -/
def W (a b c d e f g h : ℕ) : ℕ := 16 * (16 * (16 * (16 * (16 * (16 * (16 * (16 * 0 + h) + g) + f) + e) + d) + c) + b) + a

/-- The mask constant has the digit 7 eight times. -/
theorem W_sevens : 2004318071 = W 7 7 7 7 7 7 7 7 := by decide

/-- Replace the code 8 by 0. -/
def zap (n : ℕ) : ℕ := if n = 8 then 0 else n

/-- Replacing 8 by 0 keeps a digit a digit. -/
theorem zap_lt (n : ℕ) (h : n < 16) : zap n < 16 := by unfold zap; split <;> omega
/-- The low three bits of a digit are below eight. -/
theorem and7 (n : ℕ) (h : n < 16) : n &&& 7 < 8 := Nat.lt_of_le_of_lt Nat.and_le_right (by omega)
/-- One digit through the mask. -/
theorem zap_eq (n : ℕ) (h : n < 16) : n &&& (((n &&& 7) + 7) ||| 7) = zap n := by
  interval_cases n <;> decide
/-- The mask made of a digit is a digit. -/
theorem or7_lt (n : ℕ) (h : n < 16) : ((n &&& 7) + 7) ||| 7 < 16 :=
  Nat.or_lt_two_pow (n := 4) (by have := and7 n h; omega) (by omega)

/-- All eight digits through the mask. -/
theorem zap_W (a b c d e f g h : ℕ) (ha : a < 16) (hb : b < 16) (hc : c < 16) (hd : d < 16) (he : e < 16) (hf : f < 16)
    (hg : g < 16) (hh : h < 16) :
    W a b c d e f g h &&& (((W a b c d e f g h &&& 2004318071) + 2004318071) ||| 2004318071)
      = W (zap a) (zap b) (zap c) (zap d) (zap e) (zap f) (zap g) (zap h) := by
  have s7 : (7 : ℕ) < 16 := by omega
  have e1 : W a b c d e f g h &&& 2004318071
      = W (a &&& 7) (b &&& 7) (c &&& 7) (d &&& 7) (e &&& 7) (f &&& 7) (g &&& 7) (h &&& 7) := by
    rw [W_sevens]; unfold W
    rw [and_cons _ _ _ _ ha s7, and_cons _ _ _ _ hb s7, and_cons _ _ _ _ hc s7, and_cons _ _ _ _ hd s7, and_cons _ _ _ _ he s7,
      and_cons _ _ _ _ hf s7, and_cons _ _ _ _ hg s7, and_cons _ _ _ _ hh s7, Nat.and_self 0]
  have add (a b c d e f g h : ℕ) : W a b c d e f g h + 2004318071 = W (a + 7) (b + 7) (c + 7) (d + 7) (e + 7) (f + 7) (g + 7) (h + 7) := by
    unfold W; omega
  have l (n : ℕ) (h : n < 16) : (n &&& 7) + 7 < 16 := by have := and7 n h; omega
  have e2 : (W (a &&& 7) (b &&& 7) (c &&& 7) (d &&& 7) (e &&& 7) (f &&& 7) (g &&& 7) (h &&& 7) + 2004318071) ||| 2004318071
      = W (((a &&& 7) + 7) ||| 7) (((b &&& 7) + 7) ||| 7) (((c &&& 7) + 7) ||| 7) (((d &&& 7) + 7) ||| 7) (((e &&& 7) + 7) ||| 7)
        (((f &&& 7) + 7) ||| 7) (((g &&& 7) + 7) ||| 7) (((h &&& 7) + 7) ||| 7) := by
    rw [add, W_sevens]; unfold W
    rw [or_cons _ _ _ _ (l a ha) s7, or_cons _ _ _ _ (l b hb) s7, or_cons _ _ _ _ (l c hc) s7, or_cons _ _ _ _ (l d hd) s7,
      or_cons _ _ _ _ (l e he) s7, or_cons _ _ _ _ (l f hf) s7, or_cons _ _ _ _ (l g hg) s7, or_cons _ _ _ _ (l h hh) s7,
      Nat.or_self 0]
  rw [e1, e2]
  unfold W
  rw [and_cons _ _ _ _ ha (or7_lt a ha), and_cons _ _ _ _ hb (or7_lt b hb), and_cons _ _ _ _ hc (or7_lt c hc),
    and_cons _ _ _ _ hd (or7_lt d hd), and_cons _ _ _ _ he (or7_lt e he), and_cons _ _ _ _ hf (or7_lt f hf),
    and_cons _ _ _ _ hg (or7_lt g hg), and_cons _ _ _ _ hh (or7_lt h hh), Nat.and_self 0, zap_eq a ha, zap_eq b hb, zap_eq c hc,
    zap_eq d hd, zap_eq e he, zap_eq f hf, zap_eq g hg, zap_eq h hh]

/-! ## On 32-bit words -/

/-- The word of eight codes, the first in the lowest four bits. -/
abbrev word (c0 c1 c2 c3 c4 c5 c6 c7 : BitVec 32) : BitVec 32 :=
  c0 <<< 0 ||| c1 <<< 4 ||| c2 <<< 8 ||| c3 <<< 12 ||| c4 <<< 16 ||| c5 <<< 20 ||| c6 <<< 24 ||| c7 <<< 28

/-- The mask that replaces every code 8 of a word by 0. -/
abbrev mask (w : BitVec 32) : BitVec 32 := w &&& (((w &&& 2004318071#32) + 2004318071#32) ||| 2004318071#32)

/-- One code joined on top of a number of `4 k` bits. -/
theorem or_shift (lo : BitVec 32) (n k : ℕ) (hn : n < 16) (hk : k < 8) (hlo : lo.toNat < 2 ^ (4 * k)) :
    (lo ||| (BitVec.ofNat 32 n) <<< (4 * k)).toNat = lo.toNat + 2 ^ (4 * k) * n := by
  have h2 : 2 ^ (4 * k) * n < 2 ^ 32 := by
    have : 2 ^ (4 * k) * n < 2 ^ (4 * k) * 2 ^ 4 := Nat.mul_lt_mul_of_pos_left (by omega) (Nat.two_pow_pos _)
    rw [← Nat.pow_add] at this
    exact Nat.lt_of_lt_of_le this (Nat.pow_le_pow_right (by omega) (by omega))
  have e : ((BitVec.ofNat 32 n) <<< (4 * k)).toNat = 2 ^ (4 * k) * n := by
    rw [BitVec.toNat_shiftLeft, BitVec.toNat_ofNat, Nat.mod_eq_of_lt (by omega : n < 2 ^ 32), Nat.shiftLeft_eq, Nat.mul_comm,
      Nat.mod_eq_of_lt h2]
  rw [BitVec.toNat_or, e, Nat.or_comm, ← Nat.two_pow_add_eq_or_of_lt hlo, Nat.add_comm]

/-- Eight codes shifted and joined by "or" are the number with those base-sixteen digits. -/
theorem word_toNat (a b c d e f g h : ℕ) (ha : a < 16) (hb : b < 16) (hc : c < 16) (hd : d < 16) (he : e < 16) (hf : f < 16)
    (hg : g < 16) (hh : h < 16) :
    (word (BitVec.ofNat 32 a) (BitVec.ofNat 32 b) (BitVec.ofNat 32 c) (BitVec.ofNat 32 d) (BitVec.ofNat 32 e) (BitVec.ofNat 32 f)
      (BitVec.ofNat 32 g) (BitVec.ofNat 32 h)).toNat = W a b c d e f g h := by
  have t0 : ((BitVec.ofNat 32 a) <<< 0).toNat = a := by
    rw [BitVec.shiftLeft_zero, BitVec.toNat_ofNat, Nat.mod_eq_of_lt (by omega)]
  have t1 := or_shift _ b 1 hb (by omega) (by rw [t0]; omega)
  rw [t0] at t1
  have t2 := or_shift _ c 2 hc (by omega) (by rw [t1]; omega)
  rw [t1] at t2
  have t3 := or_shift _ d 3 hd (by omega) (by rw [t2]; omega)
  rw [t2] at t3
  have t4 := or_shift _ e 4 he (by omega) (by rw [t3]; omega)
  rw [t3] at t4
  have t5 := or_shift _ f 5 hf (by omega) (by rw [t4]; omega)
  rw [t4] at t5
  have t6 := or_shift _ g 6 hg (by omega) (by rw [t5]; omega)
  rw [t5] at t6
  have t7 := or_shift _ h 7 hh (by omega) (by rw [t6]; omega)
  rw [t6] at t7
  refine t7.trans ?_
  unfold W; omega

/-- The mask acts on a word digit by digit, replacing 8 by 0. -/
theorem mask_toNat (w : BitVec 32) (a b c d e f g h : ℕ) (ha : a < 16) (hb : b < 16) (hc : c < 16) (hd : d < 16) (he : e < 16)
    (hf : f < 16) (hg : g < 16) (hh : h < 16) (hw : w.toNat = W a b c d e f g h) :
    (mask w).toNat = W (zap a) (zap b) (zap c) (zap d) (zap e) (zap f) (zap g) (zap h) := by
  have hl : (w.toNat &&& 2004318071) + 2004318071 < 2 ^ 32 := by
    have : w.toNat &&& 2004318071 ≤ 2004318071 := Nat.and_le_right
    omega
  show (w &&& (((w &&& 2004318071#32) + 2004318071#32) ||| 2004318071#32)).toNat = _
  rw [BitVec.toNat_and, BitVec.toNat_or, BitVec.toNat_add, BitVec.toNat_and, show (2004318071#32).toNat = 2004318071 from rfl,
    Nat.mod_eq_of_lt hl, hw]
  exact zap_W a b c d e f g h ha hb hc hd he hf hg hh

/-- Two codes joined and cut to eight bits, as the reference packs them. -/
abbrev pair (x y : BitVec 32) : BitVec 8 := (x ||| y <<< 4).setWidth 8

/-- Two codes joined in a byte are the first plus sixteen times the second. -/
theorem pair_toNat (m n : ℕ) (hm : m < 16) (hn : n < 16) : (pair (BitVec.ofNat 32 m) (BitVec.ofNat 32 n)).toNat = m + 16 * n := by
  have h : (BitVec.ofNat 32 m).toNat = m := by rw [BitVec.toNat_ofNat, Nat.mod_eq_of_lt (by omega)]
  show ((BitVec.ofNat 32 m ||| (BitVec.ofNat 32 n) <<< 4).setWidth 8).toNat = _
  have := or_shift (BitVec.ofNat 32 m) n 1 hn (by omega) (by rw [h]; omega)
  rw [BitVec.toNat_setWidth, show (4 : ℕ) = 4 * 1 from rfl, this, h]
  omega

/-- Byte `k` of a masked word of eight codes, as a value: its two codes packed, every 8 replaced by 0. -/
theorem byte_eq (n : ℕ → ℕ) (hn : ∀ i, n i < 16) (k : ℕ) (hk : k < 4) :
    ((mask (word (BitVec.ofNat 32 (n 0)) (BitVec.ofNat 32 (n 1)) (BitVec.ofNat 32 (n 2)) (BitVec.ofNat 32 (n 3))
        (BitVec.ofNat 32 (n 4)) (BitVec.ofNat 32 (n 5)) (BitVec.ofNat 32 (n 6)) (BitVec.ofNat 32 (n 7)))) >>> (8 * k)).setWidth 8
      = pair (BitVec.ofNat 32 (zap (n (2 * k)))) (BitVec.ofNat 32 (zap (n (2 * k + 1)))) := by
  apply BitVec.eq_of_toNat_eq
  rw [pair_toNat _ _ (zap_lt _ (hn _)) (zap_lt _ (hn _)), BitVec.toNat_setWidth, BitVec.toNat_ushiftRight, Nat.shiftRight_eq_div_pow,
    mask_toNat _ _ _ _ _ _ _ _ _ (hn 0) (hn 1) (hn 2) (hn 3) (hn 4) (hn 5) (hn 6) (hn 7)
      (word_toNat _ _ _ _ _ _ _ _ (hn 0) (hn 1) (hn 2) (hn 3) (hn 4) (hn 5) (hn 6) (hn 7))]
  have z (i : ℕ) : zap (n i) < 16 := zap_lt _ (hn i)
  have z0 := z 0; have z1 := z 1; have z2 := z 2; have z3 := z 3
  have z4 := z 4; have z5 := z 5; have z6 := z 6; have z7 := z 7
  unfold W
  interval_cases k <;> simp only [Nat.mul_zero, Nat.mul_one, Nat.zero_add, Nat.reduceMul, Nat.reduceAdd, Nat.reducePow, Nat.pow_zero] <;> omega

end Cert.Nibbles
-- ==== Proof.Spec.lean ====
/-
  The quantisation as mathematics on one column of numbers (one head and lane, the tokens in order), over the extended
  reals: the block scales, the divided and clipped elements, the packed bytes. Both programs are proved to compute these.
-/
module

public import proofs.«01_k».proof.Proof.Codes
public import proofs.«01_k».proof.Proof.Nibbles
public import Idealize.ShloMosaic.Lib.Pointwise

@[expose] public section

noncomputable section

namespace Cert.Spec

open Idealize.ShloMosaic Cert.Nibbles Cert.Codes

/-- The tensor scale of an array whose largest absolute value is `a`. -/
def sgF (a : EReal) : EReal := if 0 < a then Ideal.div a ((2688 : ℝ) : EReal) else ((1 : ℝ) : EReal)

/-- `a` is the largest absolute value of the array `f` of the input's shape, stated by what it is at most. -/
def IsAmax (a : EReal) (f : Fin 16 → Fin 1024 → Fin 9216 → EReal) : Prop :=
  ∀ z, a ≤ z ↔ 0 ≤ z ∧ ∀ b r d, max (f b r d) (-(f b r d)) ≤ z

/-- An array has one largest absolute value. -/
theorem IsAmax.unique {a a' : EReal} {f : Fin 16 → Fin 1024 → Fin 9216 → EReal} (h : IsAmax a f) (h' : IsAmax a' f) : a = a' :=
  le_antisymm ((h a').2 ((h' a').1 le_rfl)) ((h' a).2 ((h a).1 le_rfl))

/-- Two arrays of rank three are equal when they are at every triple of coordinates. -/
theorem ext3 {α : Type} {n0 n1 n2 : ℕ} {x y : (⟨3, ![n0, n1, n2]⟩ : Shape).Idx → α} (h : ∀ a b c, x (ix3 a b c) = y (ix3 a b c)) : x = y := by
  funext i
  have e : i = ix3 (i 0) (i 1) (i 2) := by funext a; fin_cases a <;> rfl
  rw [e]
  exact h _ _ _

/-- One head and lane of an array of the input's shape as a column of 1024 tokens. -/
def colOf (f : Fin 16 → Fin 1024 → Fin 9216 → EReal) (b : Fin 16) (d : Fin 9216) (r : ℕ) : EReal :=
  if h : r < 1024 then f b ⟨r, h⟩ d else 0

/-- The scale of block `g` (tokens `16 g … 16 g + 15`) of the column `f` under the tensor scale `s`. -/
def sbF (s : EReal) (f : ℕ → EReal) (g : ℕ) : EReal :=
  min (Ideal.div (Finset.univ.fold max ⊥ fun r : Fin 16 => max (f (16 * g + r)) (-(f (16 * g + r)))) (((6 : ℝ) : EReal) * s))
    ((448 : ℝ) : EReal)

/-- What block `g`'s elements are divided by: its scale times the tensor scale, 1 where that is 0. -/
def effF (s : EReal) (f : ℕ → EReal) (g : ℕ) : EReal :=
  if sbF s f g * s = ((0 : ℝ) : EReal) then ((1 : ℝ) : EReal) else sbF s f g * s

/-- Token `r`, divided and clipped to [-6, 6]. -/
def yF (s : EReal) (f : ℕ → EReal) (r : ℕ) : EReal :=
  min ((6 : ℝ) : EReal) (max ((-6 : ℝ) : EReal) (Ideal.div (f r) (effF s f (r / 16))))

/-- Byte `p`: the codes of tokens `2 p` (low four bits) and `2 p + 1` (high four bits). -/
def packF (s : EReal) (f : ℕ → EReal) (p : ℕ) : BitVec 8 :=
  pair (rcode (yF s f (2 * p))) (rcode (yF s f (2 * p + 1)))

/-- A block scale depends only on the sixteen elements of its block. -/
theorem sbF_congr (s : EReal) (f f' : ℕ → EReal) (g g' : ℕ) (h : ∀ r < 16, f (16 * g + r) = f' (16 * g' + r)) :
    sbF s f g = sbF s f' g' := by
  unfold sbF
  have : (fun r : Fin 16 => max (f (16 * g + r)) (-(f (16 * g + r)))) = fun r : Fin 16 => max (f' (16 * g' + r)) (-(f' (16 * g' + r))) := by
    funext r; rw [h r r.isLt]
  rw [this]

/-- A tile sees the same divided elements as the column it is cut from, at a multiple of 16 tokens. -/
theorem yF_shift (s : EReal) (f f' : ℕ → EReal) (a n r : ℕ) (h : ∀ r < 16 * n, f r = f' (16 * a + r)) (hr : r < 16 * n) :
    yF s f r = yF s f' (16 * a + r) := by
  have e : sbF s f (r / 16) = sbF s f' ((16 * a + r) / 16) := by
    apply sbF_congr; intro q hq
    rw [h _ (by omega)]; congr 1; omega
  unfold yF effF
  rw [e, h r hr]

/-- The block scales of a run of a column are block scales of the column. -/
theorem sbF_shift (s : EReal) (f f' : ℕ → EReal) (a n g : ℕ) (h : ∀ r < 16 * n, f r = f' (16 * a + r)) (hg : g < n) :
    sbF s f g = sbF s f' (a + g) := by
  apply sbF_congr; intro q hq
  rw [h _ (by omega)]; congr 1; omega

/-- The packed bytes of a run of a column are packed bytes of the column. -/
theorem packF_shift (s : EReal) (f f' : ℕ → EReal) (a n p : ℕ) (h : ∀ r < 16 * n, f r = f' (16 * a + r)) (hp : p < 8 * n) :
    packF s f p = packF s f' (8 * a + p) := by
  unfold packF
  rw [yF_shift s f f' a n _ h (by omega), yF_shift s f f' a n _ h (by omega)]
  congr 2 <;> congr 1 <;> omega

end Cert.Spec
-- ==== Proof.TileValue.lean ====
/-
  A tile's stores read at an index over the extended reals.
-/
module

public import proofs.«01_k».proof.Proof.Tile
public import proofs.«01_k».proof.Proof.Spec
public import Idealize.ShloMosaic.Lib.Pointwise
public import Idealize.ShloMosaic.Lib.BitcastPair

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Codes Cert.Spec Cert.Nibbles

/-- Lane `l` of a tile as a column: token by token, 0 past the tile's end. -/
def col {n k : ℕ} (v : (⟨3, ![1, n, k]⟩ : Shape).Idx → EReal) (l : Fin k) (r : ℕ) : EReal :=
  if h : r < n then v (ix3 ⟨0, Nat.zero_lt_one⟩ ⟨r, h⟩ l) else 0

/-- A row inside a tile, read in the tile's column. -/
theorem col_of_lt {n k : ℕ} (v : (⟨3, ![1, n, k]⟩ : Shape).Idx → EReal) (l : Fin k) (r : ℕ) (h : r < n) :
    col v l r = v (ix3 ⟨0, Nat.zero_lt_one⟩ ⟨r, h⟩ l) := dif_pos h

/-- The tile's block scales are the column's. -/
theorem pay3_at (s : Elt Ideal .f32) (v : Vec Ideal S1x256x128 .bf16) (g : Fin 16) (l : Fin 128) :
    k1_pay3 s v (ix2 g l) = sbF s (col v l) g := by
  pointwise [k1_pay3, k1_pay2]
  unfold sbF
  have e : (fun x : Fin 16 => FloatOps.absf (F := Ideal) (φ := .f32) (v (ix3 (0 : Fin 1) ⟨g.val * 16 + x.val, by omega⟩ l)))
      = fun r : Fin 16 => max (col v l (16 * g + r)) (-(col v l (16 * g + r))) := by
    funext r
    rw [col_of_lt v l _ (by omega)]
    have : (⟨16 * g.val + r.val, by omega⟩ : Fin 256) = ⟨g.val * 16 + r.val, by omega⟩ := Fin.ext (by show 16 * g.val + r.val = g.val * 16 + r.val; omega)
    rw [this]; rfl
  erw [e, c_f32_neginf, c_f32_6, c_f32_448]

/-- A tile's stored block scale is that of the tile's column. -/
theorem sbTile_at (s : Elt Ideal .f32) (v : Vec Ideal S1x256x128 .bf16) (g : Fin 16) (l : Fin 128) :
    sbTile s v (ix3 ⟨0, Nat.zero_lt_one⟩ g l) = sbF s (col v l) g := by
  rw [← pay3_at]
  unfold sbTile
  pointwise [k1_pay4]

/-- The tile's divided and clipped elements are the column's. -/
theorem pay5_at (s : Elt Ideal .f32) (v : Vec Ideal S1x256x128 .bf16) (r : Fin 256) (l : Fin 128) :
    k1_pay5 s v (ix2 r l) = yF s (col v l) r := by
  pointwise [k1_pay5, k1_pay2]
  rw [pay3_at, c_f32_6, c_f32_m6]
  unfold yF effF
  rw [col_of_lt v l _ r.isLt]
  rfl

/-- A code of the tile is the kernel's code of the column's element. -/
theorem code_at (s : Elt Ideal .f32) (v : Vec Ideal S1x256x128 .bf16) (a : Fin 32) (b : Fin 8) (l : Fin 128) :
    codeTile s v (ix3 a b l) = kcode (yF s (col v l) (8 * a + b)) := by
  rw [show yF s (col v l) (8 * a + b) = k1_pay5 s v (ix2 ⟨8 * a + b, by omega⟩ l) from (pay5_at s v ⟨8 * a + b, by omega⟩ l).symm]
  have hi : (⟨8 * a.val + b.val, by omega⟩ : Fin 256) = ⟨a.val * 8 + b.val, by omega⟩ := Fin.ext (by show 8 * a.val + b.val = a.val * 8 + b.val; omega)
  rw [hi]
  unfold codeTile
  pointwise [k1_pay10, k1_pay6, k1_pay7, k1_pay8, k1_pay9]
  rw [c_f32_q1, c_f32_q3, c_f32_q5, c_f32_q7, c_f32_q10, c_f32_q14, c_f32_5]
  generalize k1_pay5 s v (ix2 ⟨a.val * 8 + b.val, by omega⟩ l) = y
  have h0 : (if y < 0 then 8#32 else 0#32) = if Ideal.cmp .olt y ((0 : ℝ) : EReal) = 1 then 8#32 else 0#32 := by
    show _ = if BitVec.ofBool (decide (y < ((0 : ℝ) : EReal))) = 1 then 8#32 else 0#32
    rw [EReal.coe_zero]
    by_cases h : y < 0
    · rw [if_pos h, if_pos (by rw [decide_eq_true h]; rfl)]
    · rw [if_neg h, if_neg (by rw [decide_eq_false h]; decide)]
  rw [h0]
  rfl

/-- The eight codes of each group joined into one word. -/
def orTile (x : IVec S32x8x128 32) : IVec S32x128 32 :=
  (ori (ori (ori (ori (ori (ori (ori (shli (shapeCast S32x128 (extractStridedSlice S32x1x128 ![0, 0, 0] x slices_S32x8x128_o0_0_0_S32x1x128) shapeCasts_S32x1x128_S32x128) (broadcast S32x128 0#32))
    (shli (shapeCast S32x128 (extractStridedSlice S32x1x128 ![0, 1, 0] x slices_S32x8x128_o0_1_0_S32x1x128) shapeCasts_S32x1x128_S32x128) (broadcast S32x128 4#32)))
    (shli (shapeCast S32x128 (extractStridedSlice S32x1x128 ![0, 2, 0] x slices_S32x8x128_o0_2_0_S32x1x128) shapeCasts_S32x1x128_S32x128) (broadcast S32x128 8#32)))
    (shli (shapeCast S32x128 (extractStridedSlice S32x1x128 ![0, 3, 0] x slices_S32x8x128_o0_3_0_S32x1x128) shapeCasts_S32x1x128_S32x128) (broadcast S32x128 12#32)))
    (shli (shapeCast S32x128 (extractStridedSlice S32x1x128 ![0, 4, 0] x slices_S32x8x128_o0_4_0_S32x1x128) shapeCasts_S32x1x128_S32x128) (broadcast S32x128 16#32)))
    (shli (shapeCast S32x128 (extractStridedSlice S32x1x128 ![0, 5, 0] x slices_S32x8x128_o0_5_0_S32x1x128) shapeCasts_S32x1x128_S32x128) (broadcast S32x128 20#32)))
    (shli (shapeCast S32x128 (extractStridedSlice S32x1x128 ![0, 6, 0] x slices_S32x8x128_o0_6_0_S32x1x128) shapeCasts_S32x1x128_S32x128) (broadcast S32x128 24#32)))
    (shli (shapeCast S32x128 (extractStridedSlice S32x1x128 ![0, 7, 0] x slices_S32x8x128_o0_7_0_S32x1x128) shapeCasts_S32x1x128_S32x128) (broadcast S32x128 28#32)))

/-- Each four-bit field holding 8 cleared. -/
def maskTile (w : IVec S32x128 32) : IVec S32x128 32 :=
  andi w (ori (addi (andi w (broadcast S32x128 2004318071#32)) (broadcast S32x128 2004318071#32)) (broadcast S32x128 2004318071#32))

/-- A tile's stored bytes: the codes joined into words, masked, read as bytes and transposed. -/
theorem packTile_eq (s : Elt Ideal .f32) (v : Vec Ideal S1x256x128 .bf16) :
    packTile s v = shapeCast S1x128x128 (transpose S128x128 [1, 0]
      (bitcast S128x128 8 (maskTile (orTile (codeTile s v))) bitcasts_S32x128_w32_S128x128_w8) transposes_S128x128_p1_0_S128x128)
      shapeCasts_S128x128_S1x128x128 := rfl

/-- A word is the eight codes of its rows joined. -/
theorem orTile_at (x : IVec S32x8x128 32) (a : Fin 32) (l : Fin 128) :
    orTile x (ix2 a l) = word (x (ix3 a 0 l)) (x (ix3 a 1 l)) (x (ix3 a 2 l)) (x (ix3 a 3 l)) (x (ix3 a 4 l)) (x (ix3 a 5 l)) (x (ix3 a 6 l)) (x (ix3 a 7 l)) := by
  pointwise [orTile]
  rfl

/-- The mask acts on each word by itself. -/
theorem maskTile_at (w : IVec S32x128 32) (a : Fin 32) (l : Fin 128) : maskTile w (ix2 a l) = mask (w (ix2 a l)) := by
  pointwise [maskTile]
  rfl

/-- Thirty-two-bit words read at eight bits: row `q` of a column is byte `q % 4` of word row `q / 4`. -/
theorem bitcast_bytes (x : IVec S32x128 32) (q l : Fin 128) :
    bitcast S128x128 8 x bitcasts_S32x128_w32_S128x128_w8 (ix2 q l) = ((x (ix2 ⟨q / 4, by omega⟩ l)) >>> (8 * (q.val % 4))).setWidth 8 := by
  apply BitVec.eq_of_getLsbD_eq
  intro i hi
  rw [bitcast_getLsbD x _ _ i hi (by decide)]
  have er : S128x128.row (ix2 q l) = q.val := rfl
  rw [BitVec.getLsbD_setWidth, BitVec.getLsbD_ushiftRight]
  have e1 : (q.val * 8 + i) % 32 = 8 * (q.val % 4) + i := by omega
  have e2 : (q.val * 8 + i) / 32 = q.val / 4 := by omega
  simp only [er, e1, hi, decide_true, Bool.true_and]
  congr 2
  funext c
  match c with
  | ⟨0, _⟩ => exact Fin.ext ((Shape.Bitcasts.srcIdx_row _ _ _ _ ⟨0, Nat.zero_lt_two⟩ rfl).trans e2)
  | ⟨1, _⟩ => exact Fin.ext (Shape.Bitcasts.srcIdx_other _ _ _ _ ⟨1, Nat.one_lt_two⟩ (by show ¬ 1 + 2 = 2; omega))

/-- A tile's bytes are the column's. -/
theorem packTile_at (s : Elt Ideal .f32) (v : Vec Ideal S1x256x128 .bf16) (l q : Fin 128) :
    packTile s v (ix3 ⟨0, Nat.zero_lt_one⟩ l q) = packF s (col v l) q := by
  rw [packTile_eq]
  have e : shapeCast S1x128x128 (transpose S128x128 [1, 0]
      (bitcast S128x128 8 (maskTile (orTile (codeTile s v))) bitcasts_S32x128_w32_S128x128_w8) transposes_S128x128_p1_0_S128x128)
      shapeCasts_S128x128_S1x128x128 (ix3 ⟨0, Nat.zero_lt_one⟩ l q)
      = bitcast S128x128 8 (maskTile (orTile (codeTile s v))) bitcasts_S32x128_w32_S128x128_w8 (ix2 q l) := by
    pointwise []
  rw [e, bitcast_bytes, maskTile_at, orTile_at]
  have hc : ∀ i : ℕ, ∃ n < 16, kcode (yF s (col v l) i) = BitVec.ofNat 32 n ∧ rcode (yF s (col v l) i) = BitVec.ofNat 32 (zap n) :=
    fun i => agree _
  choose n hn hk hr using hc
  have hcode : ∀ b : Fin 8, codeTile s v (ix3 ⟨q / 4, by omega⟩ b l) = BitVec.ofNat 32 (n (8 * (q / 4) + b)) := fun b =>
    (code_at s v ⟨q / 4, by omega⟩ b l).trans (hk _)
  rw [hcode 0, hcode 1, hcode 2, hcode 3, hcode 4, hcode 5, hcode 6, hcode 7]
  have hb := byte_eq (fun i => n (8 * (q / 4) + i)) (fun i => hn _) (q.val % 4) (by omega)
  unfold packF
  rw [hr, hr]
  have e1 : 8 * (q.val / 4) + 2 * (q.val % 4) = 2 * q.val := by omega
  have e2 : 8 * (q.val / 4) + (2 * (q.val % 4) + 1) = 2 * q.val + 1 := by omega
  rw [e1, e2] at hb
  exact hb

end Cert.KernelIdeal.Value
-- ==== Proof.QuantBlock.lean ====
/-
  What the quantiser leaves in its two output blocks, as functions of the block of its input.
-/
module

public import proofs.«01_k».proof.Proof.TileValue
public import Idealize.ShloMosaic.Lib.Pipeline.Value
public import Idealize.ShloMosaic.Lib.Pipeline.ValueKit.Geometry

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Codes Cert.Spec Cert.Nibbles

/-- The packed bytes of a block of 1024 tokens by 512 lanes. -/
def packBlk (s : EReal) (x : Vec Ideal S1x1024x512 .bf16) : Vec Ideal S1x512x512 .i8 :=
  fun y => packF s (col x (⟨(y 1).val, (y 1).isLt⟩ : Fin 512)) (y 2).val

/-- The block scales of a block of 1024 tokens by 512 lanes. -/
def sbBlk (s : EReal) (x : Vec Ideal S1x1024x512 .bf16) : Vec Ideal S1x64x512 .fp8e4m3 :=
  fun y => sbF s (col x (⟨(y 2).val, (y 2).isLt⟩ : Fin 512)) (y 1).val

/-- A tile cut from the block at token `256 a` and lane `128 k`. -/
theorem col_tile (x : Vec Ideal S1x1024x512 .bf16) (a k : ℕ) (oi : Fin 3 → ℕ) (hi : oi = ![0, 256 * a, 128 * k])
    (inb : ∀ d, oi d + S1x256x128.size d ≤ S1x1024x512.size d) (l : Fin 128) (l' : Fin 512) (hl : l'.val = 128 * k + l.val) :
    ∀ r < 16 * 16, col (fun j => x ((Rect.unit (s := S1x1024x512) oi S1x256x128.size inb).emb j) : Vec Ideal S1x256x128 .bf16) l r
      = col x l' (16 * (16 * a) + r) := by
  subst hi
  intro r hr
  have h1 := inb 1
  change 256 * a + 256 ≤ 1024 at h1
  rw [col_of_lt _ _ _ (by omega), col_of_lt _ _ _ (by omega)]
  congr 1
  funext d
  apply Fin.ext
  rw [ValueKit.rect_emb_unit_val]
  match d with
  | ⟨0, _⟩ => rfl
  | ⟨1, _⟩ => show 256 * a + r = 16 * (16 * a) + r; omega
  | ⟨2, _⟩ => show 128 * k + l.val = l'.val; omega

/-- A tile's bytes land where the block's function has them. -/
theorem pack_piece (s : EReal) (x : Vec Ideal S1x1024x512 .bf16) (a k : ℕ) (oi oo : Fin 3 → ℕ) (hi : oi = ![0, 256 * a, 128 * k])
    (ho : oo = ![0, 128 * k, 128 * a]) (inb : ∀ d, oi d + S1x256x128.size d ≤ S1x1024x512.size d)
    (inbo : ∀ d, oo d + S1x128x128.size d ≤ S1x512x512.size d) (z : S1x128x128.Idx) :
    packTile s (fun j => x ((Rect.unit (s := S1x1024x512) oi S1x256x128.size inb).emb j)) z
      = packBlk s x ((Rect.unit (s := S1x512x512) oo S1x128x128.size inbo).emb z) := by
  have hz : z = ix3 ⟨0, Nat.zero_lt_one⟩ (⟨(z 1).val, (z 1).isLt⟩ : Fin 128) (⟨(z 2).val, (z 2).isLt⟩ : Fin 128) := by
    funext d
    match d with
    | ⟨0, _⟩ => exact Fin.ext (Nat.lt_one_iff.mp (z 0).isLt)
    | ⟨1, _⟩ => rfl
    | ⟨2, _⟩ => rfl
  have z2 : (z 2).val < 128 := (z 2).isLt
  have e1 : ((Rect.unit (s := S1x512x512) oo S1x128x128.size inbo).emb z 1).val = 128 * k + (z 1).val := by
    rw [ValueKit.rect_emb_unit_val]; have := congrFun ho 1; change oo 1 = 128 * k at this; omega
  have e2 : ((Rect.unit (s := S1x512x512) oo S1x128x128.size inbo).emb z 2).val = 8 * (16 * a) + (z 2).val := by
    rw [ValueKit.rect_emb_unit_val]; have := congrFun ho 2; change oo 2 = 128 * a at this; omega
  conv_lhs => rw [hz]
  rw [packTile_at]
  unfold packBlk
  rw [e2]
  exact packF_shift s _ _ (16 * a) 16 _ (col_tile x a k oi hi inb _ _ e1) (by show (z 2).val < _; omega)

/-- A tile's block scales land where the block's function has them. -/
theorem sb_piece (s : EReal) (x : Vec Ideal S1x1024x512 .bf16) (a k : ℕ) (oi oo : Fin 3 → ℕ) (hi : oi = ![0, 256 * a, 128 * k])
    (ho : oo = ![0, 16 * a, 128 * k]) (inb : ∀ d, oi d + S1x256x128.size d ≤ S1x1024x512.size d)
    (inbo : ∀ d, oo d + S1x16x128.size d ≤ S1x64x512.size d) (z : S1x16x128.Idx) :
    sbTile s (fun j => x ((Rect.unit (s := S1x1024x512) oi S1x256x128.size inb).emb j)) z
      = sbBlk s x ((Rect.unit (s := S1x64x512) oo S1x16x128.size inbo).emb z) := by
  have hz : z = ix3 ⟨0, Nat.zero_lt_one⟩ (⟨(z 1).val, (z 1).isLt⟩ : Fin 16) (⟨(z 2).val, (z 2).isLt⟩ : Fin 128) := by
    funext d
    match d with
    | ⟨0, _⟩ => exact Fin.ext (Nat.lt_one_iff.mp (z 0).isLt)
    | ⟨1, _⟩ => rfl
    | ⟨2, _⟩ => rfl
  have z1 : (z 1).val < 16 := (z 1).isLt
  have e1 : ((Rect.unit (s := S1x64x512) oo S1x16x128.size inbo).emb z 2).val = 128 * k + (z 2).val := by
    rw [ValueKit.rect_emb_unit_val]; have := congrFun ho 2; change oo 2 = 128 * k at this; omega
  have e2 : ((Rect.unit (s := S1x64x512) oo S1x16x128.size inbo).emb z 1).val = 16 * a + (z 1).val := by
    rw [ValueKit.rect_emb_unit_val]; have := congrFun ho 1; change oo 1 = 16 * a at this; omega
  conv_lhs => rw [hz]
  rw [sbTile_at]
  unfold sbBlk
  rw [e2]
  exact sbF_shift s _ _ (16 * a) 16 _ (col_tile x a k oi hi inb _ _ e1) z1

/-! ## The offsets of a trip's loads and stores -/

/-- Where the input rows read for lane group `k` and token tile 0 start. -/
theorem off1_eq : ∀ k : Fin k1_t1_loop.trips, k1_off1 k = ![0, 256 * 0, 128 * k.val] := by decide +kernel
/-- Where the scale rows written for lane group `k` and token tile 0 start. -/
theorem off2_eq : ∀ k : Fin k1_t1_loop.trips, k1_off2 k = ![0, 16 * 0, 128 * k.val] := by decide +kernel
/-- Where the bytes written for lane group `k` and token tile 0 start. -/
theorem off3_eq : ∀ k : Fin k1_t1_loop.trips, k1_off3 k = ![0, 128 * k.val, 128 * 0] := by decide +kernel
/-- Where the input rows read for lane group `k` and token tile 1 start. -/
theorem off4_eq : ∀ k : Fin k1_t1_loop.trips, k1_off4 k = ![0, 256 * 1, 128 * k.val] := by decide +kernel
/-- Where the scale rows written for lane group `k` and token tile 1 start. -/
theorem off5_eq : ∀ k : Fin k1_t1_loop.trips, k1_off5 k = ![0, 16 * 1, 128 * k.val] := by decide +kernel
/-- Where the bytes written for lane group `k` and token tile 1 start. -/
theorem off6_eq : ∀ k : Fin k1_t1_loop.trips, k1_off6 k = ![0, 128 * k.val, 128 * 1] := by decide +kernel
/-- Where the input rows read for lane group `k` and token tile 2 start. -/
theorem off7_eq : ∀ k : Fin k1_t1_loop.trips, k1_off7 k = ![0, 256 * 2, 128 * k.val] := by decide +kernel
/-- Where the scale rows written for lane group `k` and token tile 2 start. -/
theorem off8_eq : ∀ k : Fin k1_t1_loop.trips, k1_off8 k = ![0, 16 * 2, 128 * k.val] := by decide +kernel
/-- Where the bytes written for lane group `k` and token tile 2 start. -/
theorem off9_eq : ∀ k : Fin k1_t1_loop.trips, k1_off9 k = ![0, 128 * k.val, 128 * 2] := by decide +kernel
/-- Where the input rows read for lane group `k` and token tile 3 start. -/
theorem off10_eq : ∀ k : Fin k1_t1_loop.trips, k1_off10 k = ![0, 256 * 3, 128 * k.val] := by decide +kernel
/-- Where the scale rows written for lane group `k` and token tile 3 start. -/
theorem off11_eq : ∀ k : Fin k1_t1_loop.trips, k1_off11 k = ![0, 16 * 3, 128 * k.val] := by decide +kernel
/-- Where the bytes written for lane group `k` and token tile 3 start. -/
theorem off12_eq : ∀ k : Fin k1_t1_loop.trips, k1_off12 k = ![0, 128 * k.val, 128 * 3] := by decide +kernel

section Block
variable (c : Dev nD) (i : grid1.Coords) (arg2 : Memref sig .tc .smem S1 .f32) (harg2 : arg2.IsWhole)
    (arg3 : Memref sig .tc .vmem S1x1024x512 .bf16) (harg3 : arg3.IsWhole) (arg4 : Memref sig .tc .vmem S1x512x512 .i8) (harg4 : arg4.IsWhole)
    (arg5 : Memref sig .tc .vmem S1x64x512 .fp8e4m3) (harg5 : arg5.IsWhole)

/-- A load of the block held whole reads the block. -/
theorem ld_block (x : Vec Ideal S1x1024x512 .bf16) (r : Rect S1x1024x512) :
    View.readAt (Elt Ideal) arg3.view r.toLoadRect (harg3.unread x) = fun j => x (r.emb j) := by
  rw [View.readAt_eq_ld, harg3.read_unread]; rfl

/-- Every piece a block's run stores is its block's function at the place it lands. -/
theorem pieces (s : EReal) (x : Vec Ideal S1x1024x512 .bf16) :
    (∀ p ∈ (pb_k1_t1 (F := Ideal) Variants.none c none i arg2 harg2 arg3 harg3 arg4 harg4 arg5 harg5 s (harg3.unread x) k1_t1_loop.trips).1,
        ∀ z : p.1.shape.Idx, p.2 z = packBlk s x (p.1.emb z))
    ∧ (∀ p ∈ (pb_k1_t1 (F := Ideal) Variants.none c none i arg2 harg2 arg3 harg3 arg4 harg4 arg5 harg5 s (harg3.unread x) k1_t1_loop.trips).2,
        ∀ z : p.1.shape.Idx, p.2 z = sbBlk s x (p.1.emb z)) := by
  refine pb_forall (F := Ideal) Variants.none c none i arg2 harg2 arg3 harg3 arg4 harg4 arg5 harg5 s (harg3.unread x)
    (fun p => ∀ z : p.1.shape.Idx, p.2 z = packBlk s x (p.1.emb z)) (fun p => ∀ z : p.1.shape.Idx, p.2 z = sbBlk s x (p.1.emb z))
    (fun k p hp => ?_) (fun k p hp => ?_) _ le_rfl
  · rw [tripL_eq] at hp
    simp only [List.mem_cons, List.not_mem_nil, or_false] at hp
    rcases hp with rfl | rfl | rfl | rfl <;> intro z <;> dsimp only <;> rw [ld_block]
    · exact pack_piece s x 3 k.val _ _ (off10_eq k) (off12_eq k) _ _ z
    · exact pack_piece s x 2 k.val _ _ (off7_eq k) (off9_eq k) _ _ z
    · exact pack_piece s x 1 k.val _ _ (off4_eq k) (off6_eq k) _ _ z
    · exact pack_piece s x 0 k.val _ _ (off1_eq k) (off3_eq k) _ _ z
  · rw [tripL_eq] at hp
    simp only [List.mem_cons, List.not_mem_nil, or_false] at hp
    rcases hp with rfl | rfl | rfl | rfl <;> intro z <;> dsimp only <;> rw [ld_block]
    · exact sb_piece s x 3 k.val _ _ (off10_eq k) (off11_eq k) _ _ z
    · exact sb_piece s x 2 k.val _ _ (off7_eq k) (off8_eq k) _ _ z
    · exact sb_piece s x 1 k.val _ _ (off4_eq k) (off5_eq k) _ _ z
    · exact sb_piece s x 0 k.val _ _ (off1_eq k) (off2_eq k) _ _ z

/-- The first output block after the body: the packed bytes. -/
theorem out_pack (x0 : Vec Ideal S1 .f32) (x : Vec Ideal S1x1024x512 .bf16) :
    out1_A_2 c i arg2 harg2 arg3 harg3 arg4 harg4 arg5 harg5 x0 x = packBlk (x0 (ix1 ⟨0, Nat.zero_lt_one⟩)) x := by
  unfold out1_A_2
  rw [View.read_writes_eq_canon _ _ _ (cover1_A_2 c i arg2 harg2 arg3 harg3 arg4 harg4 arg5 harg5 x0 x)]
  funext y
  refine View.canon_apply_of_pieces _ _ ?_ y (cover1_A_2 c i arg2 harg2 arg3 harg3 arg4 harg4 arg5 harg5 x0 x y)
  rw [(kernelRun1_eq c i arg2 harg2 arg3 harg3 arg4 harg4 arg5 harg5 x0 x).1]
  exact (pieces c i arg2 harg2 arg3 harg3 arg4 harg4 arg5 harg5 _ x).1

/-- The second output block after the body: the block scales. -/
theorem out_sb (x0 : Vec Ideal S1 .f32) (x : Vec Ideal S1x1024x512 .bf16) :
    out1_A_3 c i arg2 harg2 arg3 harg3 arg4 harg4 arg5 harg5 x0 x = sbBlk (x0 (ix1 ⟨0, Nat.zero_lt_one⟩)) x := by
  unfold out1_A_3
  rw [View.read_writes_eq_canon _ _ _ (cover1_A_3 c i arg2 harg2 arg3 harg3 arg4 harg4 arg5 harg5 x0 x)]
  funext y
  refine View.canon_apply_of_pieces _ _ ?_ y (cover1_A_3 c i arg2 harg2 arg3 harg3 arg4 harg4 arg5 harg5 x0 x y)
  rw [(kernelRun1_eq c i arg2 harg2 arg3 harg3 arg4 harg4 arg5 harg5 x0 x).2]
  exact (pieces c i arg2 harg2 arg3 harg3 arg4 harg4 arg5 harg5 _ x).2

end Block

end Cert.KernelIdeal.Value
-- ==== Proof.QuantArray.lean ====
/-
  What the quantiser's two result arrays hold after its grid, as functions of the two arrays it reads.
-/
module

public import proofs.«01_k».proof.Proof.QuantBlock

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Codes Cert.Spec Cert.Nibbles

variable (V : (c : Dev nD) → (b : Ref sig .tc) → Buf (Elt Ideal) ((c : Thread nD τ).loc b))

/-- One head and lane of the whole input as a column of 1024 tokens. -/
def colX (X : S16x1024x9216.Idx → EReal) (b : Fin 16) (d : Fin 9216) (r : ℕ) : EReal :=
  if h : r < 1024 then X (ix3 b ⟨r, h⟩ d) else 0

/-- The packed bytes of the whole input. -/
def packArr (s : EReal) (X : S16x1024x9216.Idx → EReal) : S16x9216x512.Idx → BitVec 8 :=
  fun i => packF s (colX X (⟨(i 0).val, (i 0).isLt⟩ : Fin 16) (⟨(i 1).val, (i 1).isLt⟩ : Fin 9216)) (i 2).val

/-- The block scales of the whole input. -/
def sbArr (s : EReal) (X : S16x1024x9216.Idx → EReal) : S16x64x9216.Idx → EReal :=
  fun i => sbF s (colX X (⟨(i 0).val, (i 0).isLt⟩ : Fin 16) (⟨(i 2).val, (i 2).isLt⟩ : Fin 9216)) (i 1).val

/-- The input block of grid point `t` is at batch `t / 18`, all tokens, column block `t % 18`. -/
theorem index1_1 : ∀ t : Fin cfg1.N, win1_1.index t = ![t.val / 18, 0, t.val % 18] := by decide +kernel
/-- The packed block of grid point `t` is at batch `t / 18`, column block `t % 18`, all bytes. -/
theorem index1_2 : ∀ t : Fin cfg1.N, win1_2.index t = ![t.val / 18, t.val % 18, 0] := by decide +kernel
/-- The scale block of grid point `t` is at batch `t / 18`, all blocks of tokens, column block `t % 18`. -/
theorem index1_3 : ∀ t : Fin cfg1.N, win1_3.index t = ![t.val / 18, 0, t.val % 18] := by decide +kernel

/-- A lane of the input's block at a point is a lane of the whole input. -/
theorem col_iblk (c : Dev nD) (t : Fin cfg1.N) (l : Fin 512) (b : Fin 16) (d : Fin 9216) (hb : b.val = t.val / 18)
    (hd : d.val = 512 * (t.val % 18) + l.val) :
    col (iblk1 V c 1 t : Vec Ideal S1x1024x512 .bf16) l = colX (V c main_arg0) b d := by
  funext r
  unfold col colX
  by_cases h : r < 1024
  · rw [dif_pos h, dif_pos h]
    unfold iblk1
    rw [View.read_apply]
    show V c main_arg0 _ = V c main_arg0 _
    congr 1
    funext a
    apply Fin.ext
    refine (win1_1.rect_emb_val t _ a).trans ?_
    rw [index1_1]
    match a with
    | ⟨0, _⟩ => show t.val / 18 * 1 + 0 = b.val; omega
    | ⟨1, _⟩ => show 0 * 1024 + r = r; omega
    | ⟨2, _⟩ => show t.val % 18 * 512 + l.val = d.val; omega
  · rw [dif_neg h, dif_neg h]

/-- The first input's block is its one number. -/
theorem scale_iblk (c : Dev nD) (t : Fin cfg1.N) :
    (iblk1 V c 0 t : Vec Ideal S1 .f32) (ix1 ⟨0, Nat.zero_lt_one⟩) = V c main_v6 (ix1 ⟨0, Nat.zero_lt_one⟩) := by
  unfold iblk1
  rw [View.read_apply]
  show V c main_v6 _ = V c main_v6 _
  congr 1
  funext a
  match a with
  | ⟨0, _⟩ => exact Fin.ext ((Nat.lt_one_iff.mp (Fin.isLt _)).trans (Nat.lt_one_iff.mp (Fin.isLt _)).symm)

/-- The packed bytes: the whole array is the column function at its indices. -/
theorem pack_arr (c : Dev nD) : (dat1 V c).arrAt 2 cfg1.N = packArr (V c main_v6 (ix1 ⟨0, Nat.zero_lt_one⟩)) (V c main_arg0) := by
  refine (dat1 V c).arrAt_eq_of_covers 2 _ (by decide +kernel) fun t hf y => ?_
  blk_simp
  rw [after1_2]
  unfold outsAt1
  dsimp only
  rw [out_pack, scale_iblk]
  have e : ∀ a, (((win1_2.blk t).view.emb y) a).val = win1_2.index t a * win1_2.size a + (y a).val := fun a => win1_2.rect_emb_val t y a
  have e0 := e 0
  have e1 := e 1
  have e2 := e 2
  rw [index1_2] at e0 e1 e2
  change _ = t.val / 18 * 1 + (y 0).val at e0
  change _ = t.val % 18 * 512 + (y 1).val at e1
  change _ = 0 * 512 + (y 2).val at e2
  have y0 : (y 0).val < 1 := (y 0).isLt
  unfold packBlk packArr
  rw [col_iblk V c t _ (⟨(((win1_2.blk t).view.emb y) 0).val, (((win1_2.blk t).view.emb y) 0).isLt⟩ : Fin 16)
    (⟨(((win1_2.blk t).view.emb y) 1).val, (((win1_2.blk t).view.emb y) 1).isLt⟩ : Fin 9216) (by rw [e0]; omega) (by rw [e1]; show _ = 512 * _ + (y 1).val; omega)]
  rw [e2, Nat.zero_mul, Nat.zero_add]
  rfl

/-- The block scales: the whole array is the column function at its indices. -/
theorem sb_arr (c : Dev nD) : (dat1 V c).arrAt 3 cfg1.N = sbArr (V c main_v6 (ix1 ⟨0, Nat.zero_lt_one⟩)) (V c main_arg0) := by
  refine (dat1 V c).arrAt_eq_of_covers 3 _ (by decide +kernel) fun t hf y => ?_
  blk_simp
  rw [after1_3]
  unfold outsAt1
  dsimp only
  rw [out_sb, scale_iblk]
  have e : ∀ a, (((win1_3.blk t).view.emb y) a).val = win1_3.index t a * win1_3.size a + (y a).val := fun a => win1_3.rect_emb_val t y a
  have e0 := e 0
  have e1 := e 1
  have e2 := e 2
  rw [index1_3] at e0 e1 e2
  change _ = t.val / 18 * 1 + (y 0).val at e0
  change _ = 0 * 64 + (y 1).val at e1
  change _ = t.val % 18 * 512 + (y 2).val at e2
  have y0 : (y 0).val < 1 := (y 0).isLt
  unfold sbBlk sbArr
  rw [col_iblk V c t _ (⟨(((win1_3.blk t).view.emb y) 0).val, (((win1_3.blk t).view.emb y) 0).isLt⟩ : Fin 16)
    (⟨(((win1_3.blk t).view.emb y) 2).val, (((win1_3.blk t).view.emb y) 2).isLt⟩ : Fin 9216) (by rw [e0]; omega) (by rw [e2]; show _ = 512 * _ + (y 2).val; omega)]
  rw [e1, Nat.zero_mul, Nat.zero_add]
  rfl

end Cert.KernelIdeal.Value
-- ==== Proof.HostK.lean ====
/-
  The kernel's three results, each as a function of the input: the host operations round its two grids read by their writers.
-/
module

public import proofs.«01_k».proof.Proof.Amax
public import proofs.«01_k».proof.Proof.QuantArray
public import Idealize.ShloMosaic.Lib.StableHlo.ReadAt

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Codes Cert.Spec Cert.Nibbles

/-- The tensor scale after the host operations between the grids, from the array the first grid leaves. -/
theorem sg_line (V0 : Valuation τ sig (Elt Ideal)) (i : S_.Idx) :
    StableHlo.after hostOps1_1 (StableHlo.after hostOps1 V0) (Proc.devRef .tc main_v5) i
      = (sgF (Finset.univ.fold max ⊥ fun k : Fin 16 × Fin 512 => (V0 (Proc.devRef .tc main_v0) : Vec Ideal S16x512 .bf16) (ix2 k.1 k.2)) : EReal) := by
  after_reads_at
  unfold sgF
  rw [c_bf16_neginf, c_f32_2688]
  rfl

/-- The one-element array the second grid reads is the tensor scale. -/
theorem sg1_line (V0 : Valuation τ sig (Elt Ideal)) :
    StableHlo.after hostOps1_2 V0 (Proc.devRef .tc main_v6) (ix1 ⟨0, Nat.zero_lt_one⟩) = (V0 (Proc.devRef .tc main_v5) : Vec Ideal S_ .f32) ix0 := by
  after_reads_at

/-- The last host operation transposes the block scales. -/
theorem sb_line (V0 : Valuation τ sig (Elt Ideal)) (b : Fin 16) (d : Fin 9216) (g : Fin 64) :
    StableHlo.after hostOps2 V0 (Proc.devRef .tc main_v8) (ix3 b d g) = (V0 (Proc.devRef .tc main_v7_1) : Vec Ideal S16x64x9216 .fp8e4m3) (ix3 b g d) := by
  after_reads_at

variable (m : (ℓ : Loc nD τ sig) → Buf (Elt Ideal) ℓ) (ρ : Dev nD → PrngReg)

/-- The input of device `c` as a function of its three coordinates. -/
def inp (c : Dev nD) (b : Fin 16) (r : Fin 1024) (d : Fin 9216) : EReal := (m ((c : Thread nD τ).loc main_arg0) : Vec Ideal S16x1024x9216 .bf16) (ix3 b r d)

/-- The largest absolute value the kernel finds. -/
def amaxK (c : Dev nD) : EReal := Finset.univ.fold max ⊥ fun k : Fin 16 × Fin 512 => kept (V0 m ρ) c (ix2 k.1 k.2)

/-- It is the largest absolute value of the input. -/
theorem amaxK_is (c : Dev nD) : IsAmax (amaxK m ρ c) (inp m c) := by
  intro z
  unfold amaxK
  rw [Finset.fold_max_le]
  refine Iff.trans ⟨fun h a l => h.2 (a, l) (Finset.mem_univ _), fun h => ⟨bot_le, fun k _ => h k.1 k.2⟩⟩ (amax_all_le (V0 m ρ) c z)

/-- The kernel's third result. -/
theorem sg_val (c : Dev nD) : (W6 m ρ c (Proc.devRef .tc main_v5) : Vec Ideal S_ .f32) = fun _ => sgF (amaxK m ρ c) := by
  rw [W6_of m ρ c main_v5 (by decide +kernel), W5_of_ne m ρ c main_v5 (by decide +kernel), W4_of m ρ c main_v5 (by decide +kernel)]
  funext i
  refine (sg_line _ i).trans ?_
  rw [show W1 m ρ c (Proc.devRef .tc main_v0) = (dat0 (V0 m ρ) c).arrAt 1 cfg0.N from W1_arr m ρ c 1]
  rfl

/-- The scale that the second grid reads is the tensor scale of the largest absolute value. -/
theorem sg1_val (c : Dev nD) : V4 m ρ c main_v6 (ix1 ⟨0, Nat.zero_lt_one⟩) = sgF (amaxK m ρ c) := by
  refine (sg1_line _).trans ((sg_line _ ix0).trans ?_)
  rw [show W1 m ρ c (Proc.devRef .tc main_v0) = (dat0 (V0 m ρ) c).arrAt 1 cfg0.N from W1_arr m ρ c 1]
  rfl

/-- The second grid reads the input unchanged. -/
theorem arg4 (c : Dev nD) : V4 m ρ c main_arg0 = m ((c : Thread nD τ).loc main_arg0) := W4_args m ρ c main_arg0 (by decide)

/-- The kernel's first result. -/
theorem pack_val (c : Dev nD) (b : Fin 16) (d : Fin 9216) (p : Fin 512) :
    (W6 m ρ c (Proc.devRef .tc main_v7_0) : Vec Ideal S16x9216x512 .i8) (ix3 b d p) = packF (sgF (amaxK m ρ c)) (colOf (inp m c) b d) p.val := by
  rw [W6_of m ρ c main_v7_0 (by decide +kernel)]
  rw [show W5 m ρ c (Proc.devRef .tc main_v7_0) = (dat1 (V4 m ρ) c).arrAt 2 cfg1.N from W5_arr m ρ c 2]
  rw [pack_arr, sg1_val, arg4]
  rfl

/-- The kernel's second result. -/
theorem sb_val (c : Dev nD) (b : Fin 16) (d : Fin 9216) (g : Fin 64) :
    (W6 m ρ c (Proc.devRef .tc main_v8) : Vec Ideal S16x9216x64 .fp8e4m3) (ix3 b d g) = sbF (sgF (amaxK m ρ c)) (colOf (inp m c) b d) g.val := by
  refine (sb_line _ b d g).trans ?_
  rw [show W5 m ρ c (Proc.devRef .tc main_v7_1) = (dat1 (V4 m ρ) c).arrAt 3 cfg1.N from W5_arr m ρ c 3]
  rw [sb_arr, sg1_val, arg4]
  rfl

end Cert.KernelIdeal.Value
-- ==== Proof.RefTail.lean ====
/-
  The reference's host operations after its cast call, read stretch by stretch at an index.
-/
module

public import proofs.«01_k».proof.Proof.Gen.ReferenceIdeal.Frame
public import proofs.«01_k».proof.Proof.Spec
public import Idealize.ShloMosaic.Lib.Pointwise
public import Idealize.ShloMosaic.Lib.StableHlo.ReadAt

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Codes Cert.Spec Cert.Nibbles

/-- The truth of a comparison's bit. -/
theorem ofBool_decide (p : Prop) [Decidable p] : (BitVec.ofBool (decide p) = 1) ↔ p := by
  by_cases h : p <;> simp [h]

/-- What a block's elements are divided by: its scale times the tensor scale, 1 where that is 0. -/
theorem eff_line (V0 : Valuation τ sig (Elt Ideal)) (b : Fin 16) (g : Fin 64) (d : Fin 9216) (sb sg : EReal)
    (h1 : (V0 (Proc.devRef .tc main_v15_1) : Vec Ideal S16x64x9216 .f32) (ix3 b g d) = sb)
    (h2 : (V0 (Proc.devRef .tc main_v6) : Vec Ideal S_ .f32) ix0 = sg) :
    StableHlo.after hostOps1_1 (StableHlo.after hostOps1 V0) (Proc.devRef .tc main_v20) (ix3 b g d)
      = (if sb * sg = ((0 : ℝ) : EReal) then ((1 : ℝ) : EReal) else sb * sg : EReal) := by
  after_reads_at
  rw [h1, h2]
  rfl

/-- An element divided and clipped to [-6, 6]. -/
theorem y_line (V0 : Valuation τ sig (Elt Ideal)) (b : Fin 16) (g : Fin 64) (r : Fin 16) (d : Fin 9216) :
    StableHlo.after hostOps1_3 (StableHlo.after hostOps1_2 V0) (Proc.devRef .tc main_v25) (ix4 b g r d)
      = (min ((6 : ℝ) : EReal) (max ((-6 : ℝ) : EReal)
          (Ideal.div ((V0 (Proc.devRef .tc main_v0) : Vec Ideal S16x64x16x9216 .bf16) (ix4 b g r d)) ((V0 (Proc.devRef .tc main_v20) : Vec Ideal S16x64x9216 .f32) (ix3 b g d)))) : EReal) := by
  after_reads_at
  rw [← c_f32_6, ← c_f32_m6]
  rfl

/-- The spacing of the E2M1 grid at an element. -/
theorem step_line (V0 : Valuation τ sig (Elt Ideal)) (b : Fin 16) (g : Fin 64) (r : Fin 16) (d : Fin 9216) :
    StableHlo.after hostOps1_7 (StableHlo.after hostOps1_6 (StableHlo.after hostOps1_5 (StableHlo.after hostOps1_4 V0))) (Proc.devRef .tc main_v32) (ix4 b g r d)
      = step ((V0 (Proc.devRef .tc main_v25) : Vec Ideal S16x64x16x9216 .f32) (ix4 b g r d)) := by
  after_reads_at
  unfold step
  rw [c_f32_2, c_f32_half, c_f32_4]
  simp only [Ideal.cmp, ofBool_decide]
  rfl

/-- An element over the spacing, rounded to an integer, ties to even. -/
theorem q_line (V0 : Valuation τ sig (Elt Ideal)) (b : Fin 16) (g : Fin 64) (r : Fin 16) (d : Fin 9216) :
    StableHlo.after hostOps1_9 (StableHlo.after hostOps1_8 V0) (Proc.devRef .tc main_v34) (ix4 b g r d)
      = (Ideal.liftRound Ideal.roundHalfEven (Ideal.div ((V0 (Proc.devRef .tc main_v25) : Vec Ideal S16x64x16x9216 .f32) (ix4 b g r d))
          ((V0 (Proc.devRef .tc main_v32) : Vec Ideal S16x64x16x9216 .f32) (ix4 b g r d))) : EReal) := by
  after_reads_at

/-- The E2M1 value of an element. -/
theorem val_line (V0 : Valuation τ sig (Elt Ideal)) (b : Fin 16) (g : Fin 64) (r : Fin 16) (d : Fin 9216) (q s : EReal)
    (hq : (V0 (Proc.devRef .tc main_v34) : Vec Ideal S16x64x16x9216 .f32) (ix4 b g r d) = q)
    (hs : (V0 (Proc.devRef .tc main_v32) : Vec Ideal S16x64x16x9216 .f32) (ix4 b g r d) = s) :
    (IntOp.addi (StableHlo.after hostOps1_11 (StableHlo.after hostOps1_10 V0) (Proc.devRef .tc main_v68) (ix4 b g r d))
      (StableHlo.after hostOps1_11 (StableHlo.after hostOps1_10 V0) (Proc.devRef .tc main_v65) (ix4 b g r d)) : BitVec 32) = qcode (q * s) := by
  after_reads_at
  rw [hq, hs]
  generalize (q : EReal) * s = q
  unfold qcode
  rw [c_f32_half, c_f32_3h, c_f32_2, c_f32_3, c_f32_4, c_f32_6]
  rw [show (if Ideal.cmp .olt q ((0 : ℝ) : EReal) = 1 then 8#32 else 0#32) = if q < 0 then 8#32 else 0#32 by
    simp only [Ideal.cmp, ofBool_decide]; rfl]
  rfl

/-- A byte of the packed result: the codes of its two tokens. -/
theorem out_line (V0 : Valuation τ sig (Elt Ideal)) (b : Fin 16) (d : Fin 9216) (p : Fin 512) :
    StableHlo.after hostOps1_12 V0 (Proc.devRef .tc main_v80) (ix3 b d p)
      = pair (IntOp.addi ((V0 (Proc.devRef .tc main_v68) : Vec Ideal S16x64x16x9216 .i32) (ix4 b (⟨p.val / 8, by omega⟩ : Fin 64) (⟨p.val % 8 * 2, by omega⟩ : Fin 16) d))
          ((V0 (Proc.devRef .tc main_v65) : Vec Ideal S16x64x16x9216 .i32) (ix4 b (⟨p.val / 8, by omega⟩ : Fin 64) (⟨p.val % 8 * 2, by omega⟩ : Fin 16) d)))
        (IntOp.addi ((V0 (Proc.devRef .tc main_v68) : Vec Ideal S16x64x16x9216 .i32) (ix4 b (⟨p.val / 8, by omega⟩ : Fin 64) (⟨p.val % 8 * 2 + 1, by omega⟩ : Fin 16) d))
          ((V0 (Proc.devRef .tc main_v65) : Vec Ideal S16x64x16x9216 .i32) (ix4 b (⟨p.val / 8, by omega⟩ : Fin 64) (⟨p.val % 8 * 2 + 1, by omega⟩ : Fin 16) d))) := by
  after_reads_at
  rfl

/-- The block scales, transposed. -/
theorem sbout_line (V0 : Valuation τ sig (Elt Ideal)) (b : Fin 16) (d : Fin 9216) (p : Fin 64) :
    StableHlo.after hostOps1_12 V0 (Proc.devRef .tc main_v81) (ix3 b d p) = (V0 (Proc.devRef .tc main_v15_0) : Vec Ideal S16x64x9216 .fp8e4m3) (ix3 b p d) := by
  after_reads_at

/-- The block scales before their cast, from the tensor scale and the blocked input. -/
theorem sbR_line (V0 : Valuation τ sig (Elt Ideal)) (b : Fin 16) (g : Fin 64) (d : Fin 9216) (sg : EReal) (f : Fin 16 → EReal)
    (h1 : ∀ r, (V0 (Proc.devRef .tc main_v0) : Vec Ideal S16x64x16x9216 .bf16) (ix4 b g r d) = f r)
    (h2 : (V0 (Proc.devRef .tc main_v6) : Vec Ideal S_ .f32) ix0 = sg) :
    StableHlo.after hostOps0_2 V0 (Proc.devRef .tc main_v14) (ix3 b g d)
      = (min (Ideal.div (Finset.univ.fold max ⊥ fun r : Fin 16 => max (f r) (-(f r))) (((6 : ℝ) : EReal) * sg)) ((448 : ℝ) : EReal) : EReal) := by
  after_reads_at
  simp only [h1]
  rw [h2, c_bf16_neginf, c_f32_6, c_f32_448]
  rfl

/-- The input in blocks of 16 tokens. -/
theorem xb_line (V0 : Valuation τ sig (Elt Ideal)) (b : Fin 16) (g : Fin 64) (r : Fin 16) (d : Fin 9216) :
    StableHlo.after hostOps0_1 (StableHlo.after hostOps0 V0) (Proc.devRef .tc main_v0) (ix4 b g r d)
      = (V0 (Proc.devRef .tc main_arg0) : Vec Ideal S16x1024x9216 .bf16) (ix3 b (⟨16 * g.val + r.val, by omega⟩ : Fin 1024) d) := by
  after_reads_at
  congr 2
  exact Fin.ext (by show g.val * 16 + r.val = 16 * g.val + r.val; omega)

/-- The largest absolute value of the input, as the array of no dimensions the reduction leaves. -/
def amaxV (X : FVec Ideal S16x1024x9216 .bf16) : FVec Ideal S_ .bf16 :=
  Host.reduce FloatOps.maximumf (Host.absf X) (constant S_ .bf16 0xFF80#16) reducesTo_S16x1024x9216_S_d0_1_2 h_S_

/-- The largest absolute value of the input. -/
def amaxR (X : FVec Ideal S16x1024x9216 .bf16) : EReal := amaxV X ix0

/-- It is what its name says. -/
theorem amaxR_is (X : FVec Ideal S16x1024x9216 .bf16) : IsAmax (amaxR X) fun b r d => X (ix3 b r d) := by
  intro z
  have e : amaxR X = Finset.univ.fold max ⊥ (fun i : S16x1024x9216.Idx => max (X i : EReal) (-(X i : EReal))) := by
    unfold amaxR amaxV
    rw [Host.reduce_eq_fold]
    rw [Finset.filter_true_of_mem fun i _ => funext fun a => a.elim0]
    show Finset.fold max (Ideal.ofBits .bf16 0xFF80#16) _ _ = _
    rw [c_bf16_neginf]
    rfl
  rw [e, Finset.fold_max_le]
  constructor
  · intro h
    refine ⟨?_, fun b r d => h.2 (ix3 b r d) (Finset.mem_univ _)⟩
    refine le_trans ?_ (h.2 (ix3 0 0 0) (Finset.mem_univ _))
    rcases le_total (0 : EReal) (X (ix3 0 0 0)) with h0 | h0
    · exact le_max_of_le_left h0
    · exact le_max_of_le_right (EReal.neg_nonneg.mpr h0)
  · intro h
    refine ⟨bot_le, fun i _ => ?_⟩
    obtain ⟨b, r, d, rfl⟩ : ∃ b r d, i = ix3 b r d := ⟨i 0, i 1, i 2, by funext a; fin_cases a <;> rfl⟩
    exact h.2 b r d

/-- The choice of the tensor scale, from what it chooses between. -/
theorem where_line (Y : Valuation τ sig (Elt Ideal)) (c : BitVec 1) (x y : EReal)
    (hc : (Y (Proc.devRef .tc main_v4) : IVec S_ 1) ix0 = c) (hx : (Y (Proc.devRef .tc main_v5) : FVec Ideal S_ .f32) ix0 = x)
    (hy : (Y (Proc.devRef .tc main_cst_2) : FVec Ideal S_ .f32) ix0 = y) :
    StableHlo.after hostOps0_1 Y (Proc.devRef .tc main_v6) ix0 = (if c = 1 then x else y : EReal) := by
  after_reads_at
  rw [hc, hx, hy]
  rfl

/-- The host test whether the largest absolute value is positive. -/
theorem v4_line (Z : Valuation τ sig (Elt Ideal)) :
    StableHlo.after hostOps0 Z (Proc.devRef .tc main_v4) = cmpf .ogt (extf .f32 (amaxV (Z (Proc.devRef .tc main_arg0))) bitsLt_bf16_f32) (constant S_ .f32 0x00000000#32) := by
  unfold amaxV
  after_reads_simp
/-- The host quotient of the largest absolute value by 2688. -/
theorem v5_line (Z : Valuation τ sig (Elt Ideal)) :
    StableHlo.after hostOps0 Z (Proc.devRef .tc main_v5) = Host.divf (extf .f32 (amaxV (Z (Proc.devRef .tc main_arg0))) bitsLt_bf16_f32) (constant S_ .f32 0x45280000#32) := by
  unfold amaxV
  after_reads_simp
/-- The host constant one. -/
theorem cst2_line (Z : Valuation τ sig (Elt Ideal)) :
    StableHlo.after hostOps0 Z (Proc.devRef .tc main_cst_2) = (constant S_ .f32 0x3F800000#32 : FVec Ideal S_ .f32) := by
  after_reads_simp

/-- That test as a comparison of extended reals. -/
theorem v4_at (R : FVec Ideal S_ .bf16) : cmpf .ogt (extf .f32 R bitsLt_bf16_f32) (constant S_ .f32 0x00000000#32) ix0 = BitVec.ofBool (decide ((0 : EReal) < R ix0)) := by
  pointwise
/-- That quotient as a division of extended reals. -/
theorem v5_at (R : FVec Ideal S_ .bf16) : Host.divf (extf .f32 R bitsLt_bf16_f32) (constant S_ .f32 0x45280000#32) ix0 = Ideal.div (R ix0) ((2688 : ℝ) : EReal) := by
  pointwise
  rw [c_f32_2688]

/-- The tensor scale, from the input. -/
theorem sgR_line (Z : Valuation τ sig (Elt Ideal)) :
    StableHlo.after hostOps0_1 (StableHlo.after hostOps0 Z) (Proc.devRef .tc main_v6) ix0 = (sgF (amaxR (Z (Proc.devRef .tc main_arg0))) : EReal) := by
  refine (where_line (StableHlo.after hostOps0 Z) _ _ _ ((congrFun (v4_line Z) ix0).trans (v4_at _)) ((congrFun (v5_line Z) ix0).trans (v5_at _))
    ((congrFun (cst2_line Z) ix0).trans c_f32_1)).trans ?_
  unfold sgF amaxR
  simp only [ofBool_decide]

end Cert.ReferenceIdeal.Value
-- ==== Proof.RefValue.lean ====
/-
  The reference's three results, each as a function of the input.
-/
module

public import proofs.«01_k».proof.Proof.RefTail
public import Idealize.ShloMosaic.Lib.Pipeline.Value
public import Idealize.ShloMosaic.Lib.Pipeline.ValueKit.Geometry

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Codes Cert.Spec Cert.Nibbles

/-! ## The stretches put together -/

section Chain
variable (Z : Valuation τ sig (Elt Ideal))

/-- After the scales' stretches. -/
abbrev Z1 : Valuation τ sig (Elt Ideal) := StableHlo.after hostOps1_1 (StableHlo.after hostOps1 Z)
/-- After the division and the clip. -/
abbrev Z2 : Valuation τ sig (Elt Ideal) := StableHlo.after hostOps1_3 (StableHlo.after hostOps1_2 (Z1 Z))
/-- After the spacing. -/
abbrev Z3 : Valuation τ sig (Elt Ideal) :=
  StableHlo.after hostOps1_7 (StableHlo.after hostOps1_6 (StableHlo.after hostOps1_5 (StableHlo.after hostOps1_4 (Z2 Z))))
/-- After the rounding. -/
abbrev Z4 : Valuation τ sig (Elt Ideal) := StableHlo.after hostOps1_9 (StableHlo.after hostOps1_8 (Z3 Z))
/-- After the codes. -/
abbrev Z5 : Valuation τ sig (Elt Ideal) := StableHlo.after hostOps1_11 (StableHlo.after hostOps1_10 (Z4 Z))
/-- After the packing. -/
abbrev Z6 : Valuation τ sig (Elt Ideal) := StableHlo.after hostOps1_12 (Z5 Z)

/-- The scales' stretches leave the blocked input. -/
theorem z1_v0 : Z1 Z (Proc.devRef .tc main_v0) = Z (Proc.devRef .tc main_v0) :=
  (StableHlo.after_of_writes_sub (r := main_v0) hostOps1_1 _ hostOps1_1_writes (by decide +kernel)).trans
    ((StableHlo.after_of_writes_sub (r := main_v0) hostOps1 _ hostOps1_writes (by decide +kernel)))
/-- The spacing's stretches leave the clipped elements. -/
theorem z3_v25 : Z3 Z (Proc.devRef .tc main_v25) = Z2 Z (Proc.devRef .tc main_v25) :=
  (StableHlo.after_of_writes_sub (r := main_v25) hostOps1_7 _ hostOps1_7_writes (by decide +kernel)).trans
    ((StableHlo.after_of_writes_sub (r := main_v25) hostOps1_6 _ hostOps1_6_writes (by decide +kernel)).trans
    ((StableHlo.after_of_writes_sub (r := main_v25) hostOps1_5 _ hostOps1_5_writes (by decide +kernel)).trans
    ((StableHlo.after_of_writes_sub (r := main_v25) hostOps1_4 _ hostOps1_4_writes (by decide +kernel)))))
/-- The rounding's stretches leave the spacing. -/
theorem z4_v32 : Z4 Z (Proc.devRef .tc main_v32) = Z3 Z (Proc.devRef .tc main_v32) :=
  (StableHlo.after_of_writes_sub (r := main_v32) hostOps1_9 _ hostOps1_9_writes (by decide +kernel)).trans
    ((StableHlo.after_of_writes_sub (r := main_v32) hostOps1_8 _ hostOps1_8_writes (by decide +kernel)))
/-- No stretch before the last writes the block scales. -/
theorem z5_v15 : Z5 Z (Proc.devRef .tc main_v15_0) = Z (Proc.devRef .tc main_v15_0) :=
  (StableHlo.after_of_writes_sub (r := main_v15_0) hostOps1_11 _ hostOps1_11_writes (by decide +kernel)).trans
    ((StableHlo.after_of_writes_sub (r := main_v15_0) hostOps1_10 _ hostOps1_10_writes (by decide +kernel)).trans
    ((StableHlo.after_of_writes_sub (r := main_v15_0) hostOps1_9 _ hostOps1_9_writes (by decide +kernel)).trans
    ((StableHlo.after_of_writes_sub (r := main_v15_0) hostOps1_8 _ hostOps1_8_writes (by decide +kernel)).trans
    ((StableHlo.after_of_writes_sub (r := main_v15_0) hostOps1_7 _ hostOps1_7_writes (by decide +kernel)).trans
    ((StableHlo.after_of_writes_sub (r := main_v15_0) hostOps1_6 _ hostOps1_6_writes (by decide +kernel)).trans
    ((StableHlo.after_of_writes_sub (r := main_v15_0) hostOps1_5 _ hostOps1_5_writes (by decide +kernel)).trans
    ((StableHlo.after_of_writes_sub (r := main_v15_0) hostOps1_4 _ hostOps1_4_writes (by decide +kernel)).trans
    ((StableHlo.after_of_writes_sub (r := main_v15_0) hostOps1_3 _ hostOps1_3_writes (by decide +kernel)).trans
    ((StableHlo.after_of_writes_sub (r := main_v15_0) hostOps1_2 _ hostOps1_2_writes (by decide +kernel)).trans
    ((StableHlo.after_of_writes_sub (r := main_v15_0) hostOps1_1 _ hostOps1_1_writes (by decide +kernel)).trans
    ((StableHlo.after_of_writes_sub (r := main_v15_0) hostOps1 _ hostOps1_writes (by decide +kernel)))))))))))))
/-- No stretch writes the tensor scale. -/
theorem z6_v6 : Z6 Z (Proc.devRef .tc main_v6) = Z (Proc.devRef .tc main_v6) :=
  (StableHlo.after_of_writes_sub (r := main_v6) hostOps1_12 _ hostOps1_12_writes (by decide +kernel)).trans
    ((StableHlo.after_of_writes_sub (r := main_v6) hostOps1_11 _ hostOps1_11_writes (by decide +kernel)).trans
    ((StableHlo.after_of_writes_sub (r := main_v6) hostOps1_10 _ hostOps1_10_writes (by decide +kernel)).trans
    ((StableHlo.after_of_writes_sub (r := main_v6) hostOps1_9 _ hostOps1_9_writes (by decide +kernel)).trans
    ((StableHlo.after_of_writes_sub (r := main_v6) hostOps1_8 _ hostOps1_8_writes (by decide +kernel)).trans
    ((StableHlo.after_of_writes_sub (r := main_v6) hostOps1_7 _ hostOps1_7_writes (by decide +kernel)).trans
    ((StableHlo.after_of_writes_sub (r := main_v6) hostOps1_6 _ hostOps1_6_writes (by decide +kernel)).trans
    ((StableHlo.after_of_writes_sub (r := main_v6) hostOps1_5 _ hostOps1_5_writes (by decide +kernel)).trans
    ((StableHlo.after_of_writes_sub (r := main_v6) hostOps1_4 _ hostOps1_4_writes (by decide +kernel)).trans
    ((StableHlo.after_of_writes_sub (r := main_v6) hostOps1_3 _ hostOps1_3_writes (by decide +kernel)).trans
    ((StableHlo.after_of_writes_sub (r := main_v6) hostOps1_2 _ hostOps1_2_writes (by decide +kernel)).trans
    ((StableHlo.after_of_writes_sub (r := main_v6) hostOps1_1 _ hostOps1_1_writes (by decide +kernel)).trans
    ((StableHlo.after_of_writes_sub (r := main_v6) hostOps1 _ hostOps1_writes (by decide +kernel))))))))))))))

variable (f : Fin 16 → Fin 1024 → Fin 9216 → EReal) (sg : EReal)
  (h0 : ∀ (b : Fin 16) (g : Fin 64) (r : Fin 16) (d : Fin 9216),
    (Z (Proc.devRef .tc main_v0) : Vec Ideal S16x64x16x9216 .bf16) (ix4 b g r d) = f b ⟨16 * g.val + r.val, by omega⟩ d)
  (h1 : ∀ (b : Fin 16) (g : Fin 64) (d : Fin 9216),
    (Z (Proc.devRef .tc main_v15_1) : Vec Ideal S16x64x9216 .f32) (ix3 b g d) = sbF sg (colOf f b d) g.val)
  (h6 : (Z (Proc.devRef .tc main_v6) : Vec Ideal S_ .f32) ix0 = sg)

include h0 h1 h6 in
/-- The divided, clipped element of token `16 g + r`. -/
theorem y_val (b : Fin 16) (g : Fin 64) (r : Fin 16) (d : Fin 9216) :
    (Z2 Z (Proc.devRef .tc main_v25) : Vec Ideal S16x64x16x9216 .f32) (ix4 b g r d) = yF sg (colOf f b d) (16 * g.val + r.val) := by
  refine (y_line (Z1 Z) b g r d).trans ?_
  rw [z1_v0, h0]
  rw [show (Z1 Z (Proc.devRef .tc main_v20) : Vec Ideal S16x64x9216 .f32) (ix3 b g d) = effF sg (colOf f b d) g.val from
    eff_line Z b g d _ _ (h1 b g d) h6]
  unfold yF
  rw [show (16 * g.val + r.val) / 16 = g.val by omega]
  rw [show colOf f b d (16 * g.val + r.val) = f b ⟨16 * g.val + r.val, by omega⟩ d from dif_pos (by omega)]

include h0 h1 h6 in
/-- The code of token `16 g + r`. -/
theorem code_val (b : Fin 16) (g : Fin 64) (r : Fin 16) (d : Fin 9216) :
    (IntOp.addi ((Z5 Z (Proc.devRef .tc main_v68) : Vec Ideal S16x64x16x9216 .i32) (ix4 b g r d))
      ((Z5 Z (Proc.devRef .tc main_v65) : Vec Ideal S16x64x16x9216 .i32) (ix4 b g r d)) : BitVec 32) = rcode (yF sg (colOf f b d) (16 * g.val + r.val)) := by
  have hy := y_val Z f sg h0 h1 h6 b g r d
  have hs : (Z3 Z (Proc.devRef .tc main_v32) : Vec Ideal S16x64x16x9216 .f32) (ix4 b g r d) = step (yF sg (colOf f b d) (16 * g.val + r.val)) :=
    (step_line (Z2 Z) b g r d).trans (congrArg step hy)
  refine (val_line (Z4 Z) b g r d _ (step (yF sg (colOf f b d) (16 * g.val + r.val))) (q_line (Z3 Z) b g r d) ?_).trans ?_
  · rw [z4_v32]; exact hs
  · rw [z3_v25, hy, hs]
    rfl

include h0 h1 h6 in
/-- A byte of the packed result. -/
theorem pack_chain (b : Fin 16) (d : Fin 9216) (p : Fin 512) :
    (Z6 Z (Proc.devRef .tc main_v80) : Vec Ideal S16x9216x512 .i8) (ix3 b d p) = packF sg (colOf f b d) p.val := by
  refine (out_line (Z5 Z) b d p).trans ?_
  rw [code_val Z f sg h0 h1 h6, code_val Z f sg h0 h1 h6]
  unfold packF
  congr 3
  · show 16 * (p.val / 8) + p.val % 8 * 2 = 2 * p.val; omega
  · show 16 * (p.val / 8) + (p.val % 8 * 2 + 1) = 2 * p.val + 1; omega

end Chain

/-! ## The cast call -/

variable (m : (ℓ : Loc nD τ sig) → Buf (Elt Ideal) ℓ) (ρ : Dev nD → PrngReg)

/-- The three-coordinate zero offset is zero everywhere. -/
theorem hz3 : (![0, 0, 0] : Fin 3 → Nat) = fun _ => 0 := funext fun a => by fin_cases a <;> rfl

/-- Over the extended reals both casts leave a value as it is. -/
theorem out1_id (x : Vec Ideal S16x64x9216 .f32) : (out0_1 x : S16x64x9216.Idx → EReal) = x := by
  unfold out0_1
  rw [View.canon_unit_zero hz3, View.ld_unit_zero (S := S16x64x9216) hz3]
  funext i
  obtain ⟨b, r, d, rfl⟩ : ∃ b r d, i = ix3 b r d := ⟨i 0, i 1, i 2, by funext a; fin_cases a <;> rfl⟩
  pointwise [k0_pay1]
/-- The second result of the cast call is its argument. -/
theorem out2_id (x : Vec Ideal S16x64x9216 .f32) : (out0_2 x : S16x64x9216.Idx → EReal) = x := by
  unfold out0_2
  rw [View.canon_unit_zero hz3, View.ld_unit_zero (S := S16x64x9216) hz3]
  funext i
  obtain ⟨b, r, d, rfl⟩ : ∃ b r d, i = ix3 b r d := ⟨i 0, i 1, i 2, by funext a; fin_cases a <;> rfl⟩
  pointwise [k0_pay2, k0_pay1]

/-- The call's one point. -/
def t0 : Fin cfg0.N := ⟨0, by decide +kernel⟩

/-- The call's one block of an array is the array. -/
theorem read_t0 (A : Vec Ideal S16x64x9216 .f32) : (((cfg0.win 0).blk t0).view.read (Elt Ideal) A : Vec Ideal S16x64x9216 .f32) = A := by
  funext j
  rw [View.read_apply]
  refine congrArg A ?_
  funext a
  apply Fin.ext
  refine (win0_0.rect_emb_val t0 j a).trans ?_
  rw [show win0_0.index t0 a = 0 from (by decide +kernel : ∀ a, win0_0.index t0 a = 0) a, Nat.zero_mul, Nat.zero_add]

/-- The cast call reads the whole array of unrounded block scales. -/
theorem iblk_eq (c : Dev nD) : (iblk m c 0 t0 : Vec Ideal S16x64x9216 .f32) = V m c main_v14 := by
  unfold iblk
  generalize V m c (Pipeline.arrRef spec0 0) = A
  exact read_t0 A

/-- The first array the cast call leaves is what its one step writes. -/
theorem arr1_of (c : Dev nD) (x : Vec Ideal S16x64x9216 .fp8e4m3) (hx : (dats m 0 c).after 1 t0 = x) (j : S16x64x9216.Idx) :
    ((dats m 0 c).arrAt 1 cfg0.N : Vec Ideal S16x64x9216 .fp8e4m3) j = x j := by
  subst hx
  exact (dats m 0 c).arrAt_emb_eq_after_last 1 t0 (by decide +kernel) j
/-- The second array the cast call leaves is what its one step writes. -/
theorem arr2_of (c : Dev nD) (x : Vec Ideal S16x64x9216 .f32) (hx : (dats m 0 c).after 2 t0 = x) (j : S16x64x9216.Idx) :
    ((dats m 0 c).arrAt 2 cfg0.N : Vec Ideal S16x64x9216 .f32) j = x j := by
  subst hx
  exact (dats m 0 c).arrAt_emb_eq_after_last 2 t0 (by decide +kernel) j

/-- What the call's two results hold: the scales before it. -/
theorem arr1 (c : Dev nD) (j : S16x64x9216.Idx) :
    ((dats m 0 c).arrAt 1 cfg0.N : Vec Ideal S16x64x9216 .fp8e4m3) j = (V m c main_v14 : Vec Ideal S16x64x9216 .f32) j := by
  rw [arr1_of m c _ (after0_1 m c t0) j, iblk_eq]
  exact congrFun (out1_id _) j
/-- The second array the cast call leaves equals the array it reads. -/
theorem arr2 (c : Dev nD) (j : S16x64x9216.Idx) :
    ((dats m 0 c).arrAt 2 cfg0.N : Vec Ideal S16x64x9216 .f32) j = (V m c main_v14 : Vec Ideal S16x64x9216 .f32) j := by
  rw [arr2_of m c _ (after0_2 m c t0) j, iblk_eq]
  exact congrFun (out2_id _) j

/-! ## The values before the call -/

/-- The input of device `c`. -/
def inpR (c : Dev nD) (b : Fin 16) (r : Fin 1024) (d : Fin 9216) : EReal := (m ((c : Thread nD τ).loc main_arg0) : Vec Ideal S16x1024x9216 .bf16) (ix3 b r d)

/-- The largest absolute value the reference finds on device `c`. -/
def amaxC (c : Dev nD) : EReal := amaxR (m ((c : Thread nD τ).loc main_arg0))

/-- The reference's maximum is the largest absolute value of the input. -/
theorem amaxC_is (c : Dev nD) : IsAmax (amaxC m c) (inpR m c) := amaxR_is _

/-- The values before the cast call are those after the first three stretches of host operations. -/
theorem V0_eq (c : Dev nD) : V0 m c = StableHlo.after hostOps0_2 (StableHlo.after hostOps0_1 (StableHlo.after hostOps0 fun b => m (c, b))) := by
  unfold V0
  rw [List.flatten_cons, List.flatten_cons, List.flatten_cons, List.flatten_nil, List.append_nil, StableHlo.after_append, StableHlo.after_append]

/-- The third stretch leaves the tensor scale alone. -/
theorem pass_v6 (Z : Valuation τ sig (Elt Ideal)) : StableHlo.after hostOps0_2 Z (Proc.devRef .tc main_v6) = Z (Proc.devRef .tc main_v6) := by after_reads_simp
/-- The third stretch leaves the blocked input alone. -/
theorem pass_v0 (Z : Valuation τ sig (Elt Ideal)) : StableHlo.after hostOps0_2 Z (Proc.devRef .tc main_v0) = Z (Proc.devRef .tc main_v0) := by after_reads_simp

/-- The tensor scale before the cast call. -/
theorem v6_val (c : Dev nD) : (V0 m c (Proc.devRef .tc main_v6) : Vec Ideal S_ .f32) ix0 = sgF (amaxC m c) := by
  rw [V0_eq, pass_v6]
  exact sgR_line _

/-- The blocked input before the cast call: token `r` of block `g` is token `16 g + r` of the input. -/
theorem v0_val (c : Dev nD) (b : Fin 16) (g : Fin 64) (r : Fin 16) (d : Fin 9216) :
    (V0 m c (Proc.devRef .tc main_v0) : Vec Ideal S16x64x16x9216 .bf16) (ix4 b g r d) = inpR m c b ⟨16 * g.val + r.val, by omega⟩ d := by
  rw [V0_eq, pass_v0]
  exact xb_line _ b g r d

/-- A token of a block, read in its column. -/
theorem col_block (f : Fin 16 → Fin 1024 → Fin 9216 → EReal) (b : Fin 16) (g : Fin 64) (r : Fin 16) (d : Fin 9216) :
    colOf f b d (16 * g.val + r.val) = f b ⟨16 * g.val + r.val, by omega⟩ d := dif_pos (by omega)

/-- The block scales before the cast call. -/
theorem v14_val (c : Dev nD) (b : Fin 16) (g : Fin 64) (d : Fin 9216) :
    (V0 m c (Proc.devRef .tc main_v14) : Vec Ideal S16x64x9216 .f32) (ix3 b g d) = sbF (sgF (amaxC m c)) (colOf (inpR m c) b d) g.val := by
  rw [V0_eq]
  have h1 : ∀ r : Fin 16, (StableHlo.after hostOps0_1 (StableHlo.after hostOps0 fun b => m (c, b)) (Proc.devRef .tc main_v0) : Vec Ideal S16x64x16x9216 .bf16) (ix4 b g r d)
      = colOf (inpR m c) b d (16 * g.val + r.val) := fun r => (xb_line _ b g r d).trans (col_block (inpR m c) b g r d).symm
  have h2 : (StableHlo.after hostOps0_1 (StableHlo.after hostOps0 fun b => m (c, b)) (Proc.devRef .tc main_v6) : Vec Ideal S_ .f32) ix0 = sgF (amaxC m c) := sgR_line _
  generalize StableHlo.after hostOps0_1 (StableHlo.after hostOps0 fun b => m (c, b)) = Y at h1 h2 ⊢
  exact sbR_line Y b g d _ _ h1 h2

/-! ## The run -/

/-- What the call leaves, every other buffer as before it. -/
abbrev X0 (c : Dev nD) : Valuation τ sig (Elt Ideal) :=
  Pipeline.withArrays (cfgs 0).spec c (V0 m c) fun w => (dats m 0 c).arrAt w (cfgs 0).N

/-- The cast call leaves the tensor scale alone. -/
theorem x_v6 (c : Dev nD) : X0 m c (Proc.devRef .tc main_v6) = V0 m c (Proc.devRef .tc main_v6) :=
  Pipeline.withArrays_of_ne _ c (V0 m c) _ main_v6 (by exact (by decide : ∀ w, Pipeline.arrRef spec0 w ≠ main_v6))
/-- The cast call leaves the blocked input alone. -/
theorem x_v0 (c : Dev nD) : X0 m c (Proc.devRef .tc main_v0) = V0 m c (Proc.devRef .tc main_v0) :=
  Pipeline.withArrays_of_ne _ c (V0 m c) _ main_v0 (by exact (by decide : ∀ w, Pipeline.arrRef spec0 w ≠ main_v0))
/-- After the cast call its first result is the array its steps leave. -/
theorem x_v15_0 (c : Dev nD) : X0 m c (Proc.devRef .tc main_v15_0) = (dats m 0 c).arrAt 1 cfg0.N :=
  Pipeline.withArrays_arr spec0 launch0.win.arr_inj c _ _ 1
/-- After the cast call its second result is the array its steps leave. -/
theorem x_v15_1 (c : Dev nD) : X0 m c (Proc.devRef .tc main_v15_1) = (dats m 0 c).arrAt 2 cfg0.N :=
  Pipeline.withArrays_arr spec0 launch0.win.arr_inj c _ _ 2

/-- The final values are those of the stretches of host operations run one after the other on what the cast call leaves. -/
theorem tail_eq (c : Dev nD) (b : Ref sig .tc) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c b
      = Z6 (X0 m c) (Proc.devRef .tc b) := by
  unfold Pipeline.afterTail₀
  simp only [List.flatten_cons, List.flatten_nil, List.append_nil, StableHlo.after_append]

/-- The reference's third result. -/
theorem sgR_val (c : Dev nD) : (Z6 (X0 m c) (Proc.devRef .tc main_v6) : Vec Ideal S_ .f32) = fun _ => sgF (amaxC m c) := by
  rw [z6_v6, x_v6]
  funext i
  obtain rfl : i = ix0 := funext fun a => a.elim0
  exact v6_val m c

/-- The reference's second result. -/
theorem sbR_val (c : Dev nD) (b : Fin 16) (d : Fin 9216) (g : Fin 64) :
    (Z6 (X0 m c) (Proc.devRef .tc main_v81) : Vec Ideal S16x9216x64 .fp8e4m3) (ix3 b d g) = sbF (sgF (amaxC m c)) (colOf (inpR m c) b d) g.val := by
  refine (sbout_line _ b d g).trans ?_
  rw [z5_v15, x_v15_0]
  exact (arr1 m c _).trans (v14_val m c b g d)

/-- The reference's first result. -/
theorem packR_val (c : Dev nD) (b : Fin 16) (d : Fin 9216) (p : Fin 512) :
    (Z6 (X0 m c) (Proc.devRef .tc main_v80) : Vec Ideal S16x9216x512 .i8) (ix3 b d p) = packF (sgF (amaxC m c)) (colOf (inpR m c) b d) p.val := by
  refine pack_chain (X0 m c) (inpR m c) (sgF (amaxC m c)) (fun b g r d => ?_) (fun b g d => ?_) ?_ b d p
  · rw [x_v0]; exact v0_val m c b g r d
  · rw [x_v15_1]; exact (arr2 m c _).trans (v14_val m c b g d)
  · rw [x_v6]; exact v6_val m c

/-- The reference runs to its three results. -/
theorem run : θ_run defs (onTc (τ := τ) (main (F := Ideal))) ⟨m, fun _ => 0, ρ⟩ (fun r => ∀ c : Dev nD,
    r.2.mem ((c.tc : Thread nD τ).loc main_v80) = Z6 (X0 m c) (Proc.devRef .tc main_v80)
      ∧ r.2.mem ((c.tc : Thread nD τ).loc main_v81) = Z6 (X0 m c) (Proc.devRef .tc main_v81)
      ∧ r.2.mem ((c.tc : Thread nD τ).loc main_v6) = Z6 (X0 m c) (Proc.devRef .tc main_v6)
      ∧ r.2.mem ((c.tc : Thread nD τ).loc main_arg0) = m ((c.tc : Thread nD τ).loc main_arg0)) :=
  (θ_run defs _ _).mono (fun _ h c => ⟨
    ((h c).2 main_v80 (Pipeline.mem_restRefs_of main_v80 (by decide) (by decide))).trans (tail_eq m c main_v80),
    ((h c).2 main_v81 (Pipeline.mem_restRefs_of main_v81 (by decide) (by decide))).trans (tail_eq m c main_v81),
    ((h c).2 main_v6 (Pipeline.mem_restRefs_of main_v6 (by decide) (by decide))).trans (tail_eq m c main_v6),
    ((h c).2 main_arg0 (Pipeline.mem_restRefs_of main_arg0 (by decide) (by decide))).trans (W_main_arg0 m (dats m) c)⟩) (run_main m ρ)

end Cert.ReferenceIdeal.Value
-- ==== Proof.lean ====
/-
  The proof of the certificate's claim: the three programs' runs end with every counter at zero and the arguments unchanged,
  the idealization is the program's own text, and over the extended reals the kernel and the reference end with equal results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.HostK
public import proofs.«01_k».proof.Proof.RefValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Over the extended reals the kernel's three results are the reference's, for every input: both packed arrays are the
    same function of the input and the tensor scale, both arrays of block scales too, and both tensor scales are the same
    function of the input's largest absolute value. -/
theorem algebraic : @Cert.algebraic_KernelIdeal_ReferenceIdeal Cert.KernelIdeal.Gen.facts Cert.ReferenceIdeal.Gen.facts := by
  intro m g m' g' _ harg
  refine ⟨fun c => KernelIdeal.Gen.W6 m g c (Proc.devRef .tc KernelIdeal.main_v7_0), fun c => KernelIdeal.Gen.W6 m g c (Proc.devRef .tc KernelIdeal.main_v8),
    fun c => KernelIdeal.Gen.W6 m g c (Proc.devRef .tc KernelIdeal.main_v5), KernelIdeal.Value.run m g, ?_⟩
  refine (θ_run ReferenceIdeal.defs _ _).mono (fun r h c => ?_) (ReferenceIdeal.Value.run m' g')
  have hin : ReferenceIdeal.Value.inpR m' c = KernelIdeal.Value.inp m c := by
    funext b r d
    exact congrFun (harg c) (ix3 b r d)
  have ha : ReferenceIdeal.Value.amaxC m' c = KernelIdeal.Value.amaxK m g c :=
    (ReferenceIdeal.Value.amaxC_is m' c).unique (hin ▸ KernelIdeal.Value.amaxK_is m g c)
  refine ⟨(h c).1.trans ?_, (h c).2.1.trans ?_, (h c).2.2.1.trans ?_, (h c).2.2.2⟩
  · refine Cert.Spec.ext3 (n0 := 16) (n1 := 9216) (n2 := 512) fun b d p => ?_
    refine (ReferenceIdeal.Value.packR_val m' c b d p).trans (Eq.trans ?_ (KernelIdeal.Value.pack_val m g c b d p).symm)
    rw [hin, ha]
  · refine Cert.Spec.ext3 (n0 := 16) (n1 := 9216) (n2 := 64) fun b d p => ?_
    refine (ReferenceIdeal.Value.sbR_val m' c b d p).trans (Eq.trans ?_ (KernelIdeal.Value.sb_val m g c b d p).symm)
    rw [hin, ha]
  · refine (ReferenceIdeal.Value.sgR_val m' c).trans (Eq.trans ?_ (KernelIdeal.Value.sg_val m g c).symm)
    rw [ha]
    rfl

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
